-- ==== Defs.lean ====
def Pre_Kernel [hPre_tile_ranges : Cert.Pre_tile_ranges.Facts] (m : (ℓ : Loc Cert.Kernel.nD Cert.Kernel.τ Cert.Kernel.sig) → Buf (Elt Bits) ℓ) : Prop :=
  ∀ c : Dev Cert.Kernel.nD,
    (Cert.Pre_tile_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tile_ranges : Cert.Pre_tile_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_tile_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_tile_ranges : Cert.Pre_tile_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tile_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_tile_ranges : Cert.Pre_tile_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tile_ranges : Cert.Pre_tile_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_tile_ranges : Cert.Pre_tile_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tile_ranges : Cert.Pre_tile_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tile_ranges : Cert.Pre_tile_ranges.Facts),
    quiescent_Kernel (hKernel := hKernel) (hPre_tile_ranges := hPre_tile_ranges)
    ∧ quiescent_KernelIdeal (hKernelIdeal := hKernelIdeal) (hPre_tile_ranges := hPre_tile_ranges)
    ∧ quiescent_ReferenceIdeal (hReferenceIdeal := hReferenceIdeal) (hPre_tile_ranges := hPre_tile_ranges)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_tile_ranges := hPre_tile_ranges)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_tile_ranges.lean ====
abbrev S36864x2048 : Shape := ⟨2, ![36864, 2048]⟩
abbrev S72 : Shape := ⟨1, ![72]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x2048 .f32) (main_arg1 : IVec S72 32) (main_arg2 : IVec S72 32) (main_arg3 : FVec F S8x2048x7168 .bf16) (main_arg4 : FVec F S8x2048x7168 .bf16) (main_arg5 : FVec F S8x7168x2048 .bf16) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 0#32
  let main_v6 : IVec S72 32 := broadcastInDim S72 ![] bcast_S_S72 main_c_2
  let main_v7 : IVec S72 1 := cmpi .sge main_arg2 main_v6
  let main_c_3 : IVec S_ 32 := constantI S_ 32 2#32
  let main_v8 : IVec S72 32 := broadcastInDim S72 ![] bcast_S_S72 main_c_3
  let main_v9 : IVec S72 1 := cmpi .slt main_arg2 main_v8
  let main_v10 : IVec S72 1 := andi main_v7 main_v9
  let main_c_4 : IVec S_ 1 := constantI S_ 1 1#1
  let main_v11 : IVec S_ 1 := (fun x v => Host.reduce IntOp.andi x v reducesTo_S72_S_d0 h_S_) main_v10 main_c_4
  let main_v12 : IVec S_ 1 := andi main_v5 main_v11
  main_v12
-- ==== Kernel.lean ====
abbrev S36864x2048 : Shape := ⟨2, ![36864, 2048]⟩
abbrev S72 : Shape := ⟨1, ![72]⟩
abbrev S8x2048x7168 : Shape := ⟨3, ![8, 2048, 7168]⟩
abbrev S8x7168x2048 : Shape := ⟨3, ![8, 7168, 2048]⟩
abbrev S512x2048 : Shape := ⟨2, ![512, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 5
  | .vmem => 12
  | .smem => 2
  | _ => 0

abbrev bufTy : (tb : Table) → Fin (tcTables nBuf tb) → BufTy
  | .hbm, ⟨0, _⟩ => ⟨S36864x2048, .f32⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | .local _ .smem, ⟨0, _⟩ => ⟨S72, .i32⟩
  | .local _ .smem, ⟨1, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 14], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond5 (i : grid0.Coords) : BitVec 1 :=
  let arg1 : BitVec 32 := BitVec.ofNat 32 (i 1).val
  let c13_i32_23 : BitVec 32 := 13#32
  let v41 : BitVec 1 := Scalar.cmpi .eq arg1 c13_i32_23
  let v42 : BitVec 32 := Scalar.extui v41
  let c0_i32_24 : BitVec 32 := 0#32
  let v43 : BitVec 1 := Scalar.cmpi .ne v42 c0_i32_24
  v43

def k0_cond6 (i : grid0.Coords) (v6 : BitVec 32) : BitVec 1 :=
  let c0_i32_0 : BitVec 32 := 0#32
  let v7 : BitVec 1 := Scalar.cmpi .eq v6 c0_i32_0
  let arg1 : BitVec 32 := BitVec.ofNat 32 (i 1).val
  let c13_i32 : BitVec 32 := 13#32
  let v8 : BitVec 1 := Scalar.cmpi .eq arg1 c13_i32
  let v9 : BitVec 1 := Scalar.andi v7 v8
  let v10 : BitVec 32 := Scalar.extui v9
  let c0_i32_1 : BitVec 32 := 0#32
  let v11 : BitVec 1 := Scalar.cmpi .ne v10 c0_i32_1
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c13_i32 : BitVec 32 := 13#32
  let v5 : BitVec 32 := Scalar.select v4 arg1 c13_i32
  let c0_i32 : BitVec 32 := 0#32
  let c0_i32_0 : BitVec 32 := 0#32
  ![v1.toNat, c0_i32.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c13_i32 : BitVec 32 := 13#32
  let v5 : BitVec 32 := Scalar.select v4 arg1 c13_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c13_i32 : BitVec 32 := 13#32
  let v5 : BitVec 32 := Scalar.select v4 arg1 c13_i32
  let c0_i32 : BitVec 32 := 0#32
  let c0_i32_0 : BitVec 32 := 0#32
  ![v1.toNat, v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S36864x2048 : Shape := ⟨2, ![36864, 2048]⟩
abbrev S72 : Shape := ⟨1, ![72]⟩
abbrev S8x2048x7168 : Shape := ⟨3, ![8, 2048, 7168]⟩
abbrev S8x7168x2048 : Shape := ⟨3, ![8, 7168, 2048]⟩
abbrev S72x1 : Shape := ⟨2, ![72, 1]⟩
abbrev S72x512 : Shape := ⟨2, ![72, 512]⟩
abbrev S36864 : Shape := ⟨1, ![36864]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S_ : Shape := ⟨0, ![]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S36864x7168 : Shape := ⟨2, ![36864, 7168]⟩

abbrev nBuf : Space → Nat
  | .hbm => 226
  | .vmem => 0
  | .smem => 0
  | _ => 0

abbrev hbmTy0_0 (i : Nat) : BufTy := match i % 128 with
  | 0 => ⟨S36864x2048, .f32⟩
  | 1 => ⟨S72, .i32⟩
  | 2 => ⟨S72, .i32⟩
  | 3 => ⟨S8x2048x7168, .bf16⟩
  | 4 => ⟨S8x2048x7168, .bf16⟩
  | 5 => ⟨S8x7168x2048, .bf16⟩
  | 6 => ⟨S8x2048x7168, .f32⟩
  | 7 => ⟨S8x2048x7168, .f32⟩
  | 8 => ⟨S8x7168x2048, .f32⟩
  | 9 => ⟨S72x1, .i32⟩
  | 10 => ⟨S72x512, .i32⟩
  | 11 => ⟨S36864, .i32⟩
  | 12 => ⟨S72x1, .i32⟩
  | 13 => ⟨S72x512, .i32⟩
  | 14 => ⟨S36864, .i32⟩
  | 15 => ⟨S36864x1, .i32⟩
  | 16 => ⟨S8, .i32⟩
  | 17 => ⟨S1x8, .i32⟩
  | 18 => ⟨S36864x8, .i32⟩
  | 19 => ⟨S36864x8, .i32⟩
  | 20 => ⟨S36864x8, .i1⟩
  | 21 => ⟨S36864x1, .i32⟩
  | 22 => ⟨S_, .i32⟩
  | 23 => ⟨S36864x1, .i32⟩
  | 24 => ⟨S36864x1, .i1⟩
  | 25 => ⟨S36864x8, .i1⟩
  | 26 => ⟨S36864x8, .i1⟩
  | 27 => ⟨S_, .f32⟩
  | 28 => ⟨S_, .f32⟩
  | 29 => ⟨S36864x8, .f32⟩
  | 30 => ⟨S36864x8, .f32⟩
  | 31 => ⟨S36864x8, .f32⟩
  | 32 => ⟨S_, .f32⟩
  | 33 => ⟨S36864x2048, .f32⟩
  | 34 => ⟨S36864x1, .f32⟩
  | 35 => ⟨S1x2048x7168, .f32⟩
  | 36 => ⟨S2048x7168, .f32⟩
  | 37 => ⟨S1x2048x7168, .f32⟩
  | 38 => ⟨S2048x7168, .f32⟩
  | 39 => ⟨S1x7168x2048, .f32⟩
  | 40 => ⟨S7168x2048, .f32⟩
  | 41 => ⟨S36864x7168, .f32⟩
  | 42 => ⟨S36864x7168, .f32⟩
  | 43 => ⟨S36864x7168, .f32⟩
  | 44 => ⟨S_, .f32⟩
  | 45 => ⟨S36864x7168, .f32⟩
  | 46 => ⟨S36864x7168, .f32⟩
  | 47 => ⟨S_, .f32⟩
  | 48 => ⟨S36864x7168, .f32⟩
  | 49 => ⟨S36864x7168, .f32⟩
  | 50 => ⟨S36864x7168, .f32⟩
  | 51 => ⟨S36864x7168, .f32⟩
  | 52 => ⟨S36864x7168, .f32⟩
  | 53 => ⟨S36864x2048, .f32⟩
  | 54 => ⟨S36864x1, .f32⟩
  | 55 => ⟨S36864x2048, .f32⟩
  | 56 => ⟨S36864x2048, .f32⟩
  | 57 => ⟨S36864x2048, .f32⟩
  | 58 => ⟨S36864x1, .f32⟩
  | 59 => ⟨S1x2048x7168, .f32⟩
  | 60 => ⟨S2048x7168, .f32⟩
  | 61 => ⟨S1x2048x7168, .f32⟩
  | 62 => ⟨S2048x7168, .f32⟩
  | 63 => ⟨S1x7168x2048, .f32⟩
  | 64 => ⟨S7168x2048, .f32⟩
  | 65 => ⟨S36864x7168, .f32⟩
  | 66 => ⟨S36864x7168, .f32⟩
  | 67 => ⟨S36864x7168, .f32⟩
  | 68 => ⟨S_, .f32⟩
  | 69 => ⟨S36864x7168, .f32⟩
  | 70 => ⟨S36864x7168, .f32⟩
  | 71 => ⟨S_, .f32⟩
  | 72 => ⟨S36864x7168, .f32⟩
  | 73 => ⟨S36864x7168, .f32⟩
  | 74 => ⟨S36864x7168, .f32⟩
  | 75 => ⟨S36864x7168, .f32⟩
  | 76 => ⟨S36864x7168, .f32⟩
  | 77 => ⟨S36864x2048, .f32⟩
  | 78 => ⟨S36864x1, .f32⟩
  | 79 => ⟨S36864x2048, .f32⟩
  | 80 => ⟨S36864x2048, .f32⟩
  | 81 => ⟨S36864x2048, .f32⟩
  | 82 => ⟨S36864x1, .f32⟩
  | 83 => ⟨S1x2048x7168, .f32⟩
  | 84 => ⟨S2048x7168, .f32⟩
  | 85 => ⟨S1x2048x7168, .f32⟩
  | 86 => ⟨S2048x7168, .f32⟩
  | 87 => ⟨S1x7168x2048, .f32⟩
  | 88 => ⟨S7168x2048, .f32⟩
  | 89 => ⟨S36864x7168, .f32⟩
  | 90 => ⟨S36864x7168, .f32⟩
  | 91 => ⟨S36864x7168, .f32⟩
  | 92 => ⟨S_, .f32⟩
  | 93 => ⟨S36864x7168, .f32⟩
  | 94 => ⟨S36864x7168, .f32⟩
  | 95 => ⟨S_, .f32⟩
  | 96 => ⟨S36864x7168, .f32⟩
  | 97 => ⟨S36864x7168, .f32⟩
  | 98 => ⟨S36864x7168, .f32⟩
  | 99 => ⟨S36864x7168, .f32⟩
  | 100 => ⟨S36864x7168, .f32⟩
  | 101 => ⟨S36864x2048, .f32⟩
  | 102 => ⟨S36864x1, .f32⟩
  | 103 => ⟨S36864x2048, .f32⟩
  | 104 => ⟨S36864x2048, .f32⟩
  | 105 => ⟨S36864x2048, .f32⟩
  | 106 => ⟨S36864x1, .f32⟩
  | 107 => ⟨S1x2048x7168, .f32⟩
  | 108 => ⟨S2048x7168, .f32⟩
  | 109 => ⟨S1x2048x7168, .f32⟩
  | 110 => ⟨S2048x7168, .f32⟩
  | 111 => ⟨S1x7168x2048, .f32⟩
  | 112 => ⟨S7168x2048, .f32⟩
  | 113 => ⟨S36864x7168, .f32⟩
  | 114 => ⟨S36864x7168, .f32⟩
  | 115 => ⟨S36864x7168, .f32⟩
  | 116 => ⟨S_, .f32⟩
  | 117 => ⟨S36864x7168, .f32⟩
  | 118 => ⟨S36864x7168, .f32⟩
  | 119 => ⟨S_, .f32⟩
  | 120 => ⟨S36864x7168, .f32⟩
  | 121 => ⟨S36864x7168, .f32⟩
  | 122 => ⟨S36864x7168, .f32⟩
  | 123 => ⟨S36864x7168, .f32⟩
  | 124 => ⟨S36864x7168, .f32⟩
  | 125 => ⟨S36864x2048, .f32⟩
  | 126 => ⟨S36864x1, .f32⟩
  | 127 => ⟨S36864x2048, .f32⟩
  | _ => ⟨S36864x2048, .f32⟩

abbrev hbmTy0_1 (i : Nat) : BufTy := match i % 128 with
  | 0 => ⟨S36864x2048, .f32⟩
  | 1 => ⟨S36864x2048, .f32⟩
  | 2 => ⟨S36864x1, .f32⟩
  | 3 => ⟨S1x2048x7168, .f32⟩
  | 4 => ⟨S2048x7168, .f32⟩
  | 5 => ⟨S1x2048x7168, .f32⟩
  | 6 => ⟨S2048x7168, .f32⟩
  | 7 => ⟨S1x7168x2048, .f32⟩
  | 8 => ⟨S7168x2048, .f32⟩
  | 9 => ⟨S36864x7168, .f32⟩
  | 10 => ⟨S36864x7168, .f32⟩
  | 11 => ⟨S36864x7168, .f32⟩
  | 12 => ⟨S_, .f32⟩
  | 13 => ⟨S36864x7168, .f32⟩
  | 14 => ⟨S36864x7168, .f32⟩
  | 15 => ⟨S_, .f32⟩
  | 16 => ⟨S36864x7168, .f32⟩
  | 17 => ⟨S36864x7168, .f32⟩
  | 18 => ⟨S36864x7168, .f32⟩
  | 19 => ⟨S36864x7168, .f32⟩
  | 20 => ⟨S36864x7168, .f32⟩
  | 21 => ⟨S36864x2048, .f32⟩
  | 22 => ⟨S36864x1, .f32⟩
  | 23 => ⟨S36864x2048, .f32⟩
  | 24 => ⟨S36864x2048, .f32⟩
  | 25 => ⟨S36864x2048, .f32⟩
  | 26 => ⟨S36864x1, .f32⟩
  | 27 => ⟨S1x2048x7168, .f32⟩
  | 28 => ⟨S2048x7168, .f32⟩
  | 29 => ⟨S1x2048x7168, .f32⟩
  | 30 => ⟨S2048x7168, .f32⟩
  | 31 => ⟨S1x7168x2048, .f32⟩
  | 32 => ⟨S7168x2048, .f32⟩
  | 33 => ⟨S36864x7168, .f32⟩
  | 34 => ⟨S36864x7168, .f32⟩
  | 35 => ⟨S36864x7168, .f32⟩
  | 36 => ⟨S_, .f32⟩
  | 37 => ⟨S36864x7168, .f32⟩
  | 38 => ⟨S36864x7168, .f32⟩
  | 39 => ⟨S_, .f32⟩
  | 40 => ⟨S36864x7168, .f32⟩
  | 41 => ⟨S36864x7168, .f32⟩
  | 42 => ⟨S36864x7168, .f32⟩
  | 43 => ⟨S36864x7168, .f32⟩
  | 44 => ⟨S36864x7168, .f32⟩
  | 45 => ⟨S36864x2048, .f32⟩
  | 46 => ⟨S36864x1, .f32⟩
  | 47 => ⟨S36864x2048, .f32⟩
  | 48 => ⟨S36864x2048, .f32⟩
  | 49 => ⟨S36864x2048, .f32⟩
  | 50 => ⟨S36864x1, .f32⟩
  | 51 => ⟨S1x2048x7168, .f32⟩
  | 52 => ⟨S2048x7168, .f32⟩
  | 53 => ⟨S1x2048x7168, .f32⟩
  | 54 => ⟨S2048x7168, .f32⟩
  | 55 => ⟨S1x7168x2048, .f32⟩
  | 56 => ⟨S7168x2048, .f32⟩
  | 57 => ⟨S36864x7168, .f32⟩
  | 58 => ⟨S36864x7168, .f32⟩
  | 59 => ⟨S36864x7168, .f32⟩
  | 60 => ⟨S_, .f32⟩
  | 61 => ⟨S36864x7168, .f32⟩
  | 62 => ⟨S36864x7168, .f32⟩
  | 63 => ⟨S_, .f32⟩
  | 64 => ⟨S36864x7168, .f32⟩
  | 65 => ⟨S36864x7168, .f32⟩
  | 66 => ⟨S36864x7168, .f32⟩
  | 67 => ⟨S36864x7168, .f32⟩
  | 68 => ⟨S36864x7168, .f32⟩
  | 69 => ⟨S36864x2048, .f32⟩
  | 70 => ⟨S36864x1, .f32⟩
  | 71 => ⟨S36864x2048, .f32⟩
  | 72 => ⟨S36864x2048, .f32⟩
  | 73 => ⟨S36864x2048, .f32⟩
  | 74 => ⟨S36864x1, .f32⟩
  | 75 => ⟨S1x2048x7168, .f32⟩
  | 76 => ⟨S2048x7168, .f32⟩
  | 77 => ⟨S1x2048x7168, .f32⟩
  | 78 => ⟨S2048x7168, .f32⟩
  | 79 => ⟨S1x7168x2048, .f32⟩
  | 80 => ⟨S7168x2048, .f32⟩
  | 81 => ⟨S36864x7168, .f32⟩
  | 82 => ⟨S36864x7168, .f32⟩
  | 83 => ⟨S36864x7168, .f32⟩
  | 84 => ⟨S_, .f32⟩
  | 85 => ⟨S36864x7168, .f32⟩
  | 86 => ⟨S36864x7168, .f32⟩
  | 87 => ⟨S_, .f32⟩
  | 88 => ⟨S36864x7168, .f32⟩
  | 89 => ⟨S36864x7168, .f32⟩
  | 90 => ⟨S36864x7168, .f32⟩
  | 91 => ⟨S36864x7168, .f32⟩
  | 92 => ⟨S36864x7168, .f32⟩
  | 93 => ⟨S36864x2048, .f32⟩
  | 94 => ⟨S36864x1, .f32⟩
  | 95 => ⟨S36864x2048, .f32⟩
  | 96 => ⟨S36864x2048, .f32⟩
  | 97 => ⟨S36864x2048, .f32⟩
  | _ => ⟨S36864x2048, .f32⟩

abbrev hbmTy (i : Nat) : BufTy := match i / 128 with
  | 0 => hbmTy0_0 i
  | 1 => hbmTy0_1 i
  | _ => ⟨S36864x2048, .f32⟩

abbrev bufTy : (tb : Table) → Fin (tcTables nBuf tb) → BufTy
  | .hbm, ⟨i, _⟩ => hbmTy i
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call5_v0 : Ref sig .tc := ⟨.hbm, 138, rfl⟩
abbrev main_call5_v1 : Ref sig .tc := ⟨.hbm, 139, rfl⟩
abbrev main_call5_cst : Ref sig .tc := ⟨.hbm, 140, rfl⟩
abbrev main_call5_v2 : Ref sig .tc := ⟨.hbm, 141, rfl⟩
abbrev main_call5_v3 : Ref sig .tc := ⟨.hbm, 142, rfl⟩
abbrev main_call5_cst_0 : Ref sig .tc := ⟨.hbm, 143, rfl⟩
abbrev main_call5_v4 : Ref sig .tc := ⟨.hbm, 144, rfl⟩
abbrev main_call5_v5 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_call6_v0 : Ref sig .tc := ⟨.hbm, 162, rfl⟩
abbrev main_call6_v1 : Ref sig .tc := ⟨.hbm, 163, rfl⟩
abbrev main_call6_cst : Ref sig .tc := ⟨.hbm, 164, rfl⟩
abbrev main_call6_v2 : Ref sig .tc := ⟨.hbm, 165, rfl⟩
abbrev main_call6_v3 : Ref sig .tc := ⟨.hbm, 166, rfl⟩
abbrev main_call6_cst_0 : Ref sig .tc := ⟨.hbm, 167, rfl⟩
abbrev main_call6_v4 : Ref sig .tc := ⟨.hbm, 168, rfl⟩
abbrev main_call6_v5 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_call7_v0 : Ref sig .tc := ⟨.hbm, 186, rfl⟩
abbrev main_call7_v1 : Ref sig .tc := ⟨.hbm, 187, rfl⟩
abbrev main_call7_cst : Ref sig .tc := ⟨.hbm, 188, rfl⟩
abbrev main_call7_v2 : Ref sig .tc := ⟨.hbm, 189, rfl⟩
abbrev main_call7_v3 : Ref sig .tc := ⟨.hbm, 190, rfl⟩
abbrev main_call7_cst_0 : Ref sig .tc := ⟨.hbm, 191, rfl⟩
abbrev main_call7_v4 : Ref sig .tc := ⟨.hbm, 192, rfl⟩
abbrev main_call7_v5 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_call8_v0 : Ref sig .tc := ⟨.hbm, 210, rfl⟩
abbrev main_call8_v1 : Ref sig .tc := ⟨.hbm, 211, rfl⟩
abbrev main_call8_cst : Ref sig .tc := ⟨.hbm, 212, rfl⟩
abbrev main_call8_v2 : Ref sig .tc := ⟨.hbm, 213, rfl⟩
abbrev main_call8_v3 : Ref sig .tc := ⟨.hbm, 214, rfl⟩
abbrev main_call8_cst_0 : Ref sig .tc := ⟨.hbm, 215, rfl⟩
abbrev main_call8_v4 : Ref sig .tc := ⟨.hbm, 216, rfl⟩
abbrev main_call8_v5 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩

abbrev nD : Nat := 1
abbrev τ : Topo := Topo.v7x

variable {F : FTy → Type} [FloatOps F]
-- ==== Kernel2.lean ====
abbrev S16640x2048 : Shape := ⟨2, ![16640, 2048]⟩
abbrev S2x2048 : Shape := ⟨2, ![2, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S640x2048 : Shape := ⟨2, ![640, 2048]⟩
abbrev S2048x512 : Shape := ⟨2, ![2048, 512]⟩
abbrev S512x2048 : Shape := ⟨2, ![512, 2048]⟩
abbrev S640x512 : Shape := ⟨2, ![640, 512]⟩
abbrev S640x1 : Shape := ⟨2, ![640, 1]⟩
abbrev S1x2048 : Shape := ⟨2, ![1, 2048]⟩

abbrev nBuf : Space → Nat
  | .hbm => 14
  | .vmem => 14
  | .smem => 0
  | _ => 0

abbrev bufTy : (tb : Table) → Fin (tcTables nBuf tb) → BufTy
  | .hbm, ⟨0, _⟩ => ⟨S16640x2048, .f32⟩
  | .hbm, ⟨1, _⟩ => ⟨S2x2048, .f32⟩
  | .hbm, ⟨2, _⟩ => ⟨S16640x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S16640x2048, .bf16⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S16640x2048, .f32⟩
  | .local _ .vmem, ⟨0, _⟩ => ⟨S640x2048, .f32⟩
  | .local _ .vmem, ⟨1, _⟩ => ⟨S640x2048, .f32⟩
  | .local _ .vmem, ⟨2, _⟩ => ⟨S2x2048, .f32⟩
  | .local _ .vmem, ⟨3, _⟩ => ⟨S640x2048, .bf16⟩
  | .local _ .vmem, ⟨4, _⟩ => ⟨S640x2048, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S640x2048, .f32⟩
  | .local _ .vmem, ⟨12, _⟩ => ⟨S640x2048, .f32⟩
  | .local _ .vmem, ⟨13, _⟩ => ⟨S640x2048, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![26, 11], ![false, false]⟩

def k0_cond3 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16640x2048 : Shape := ⟨2, ![16640, 2048]⟩
abbrev S2x2048 : Shape := ⟨2, ![2, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S16640x5632 : Shape := ⟨2, ![16640, 5632]⟩
abbrev S_ : Shape := ⟨0, ![]⟩
abbrev S16384x2048 : Shape := ⟨2, ![16384, 2048]⟩
abbrev S1x2048 : Shape := ⟨2, ![1, 2048]⟩
abbrev S2048 : Shape := ⟨1, ![2048]⟩
abbrev S256x2048 : Shape := ⟨2, ![256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2x2048, .f32⟩
  | .hbm, ⟨2, _⟩ => ⟨S16640x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S16640x5632, .f32⟩
  | .hbm, ⟨10, _⟩ => ⟨S16640x5632, .f32⟩
  | .hbm, ⟨11, _⟩ => ⟨S16640x5632, .f32⟩
  | .hbm, ⟨12, _⟩ => ⟨S_, .f32⟩
  | .hbm, ⟨13, _⟩ => ⟨S16640x5632, .f32⟩
  | .hbm, ⟨14, _⟩ => ⟨S16640x5632, .f32⟩
  | .hbm, ⟨15, _⟩ => ⟨S_, .f32⟩
  | .hbm, ⟨16, _⟩ => ⟨S16640x5632, .f32⟩
  | .hbm, ⟨17, _⟩ => ⟨S16640x5632, .f32⟩
  | .hbm, ⟨18, _⟩ => ⟨S16640x5632, .f32⟩
  | .hbm, ⟨19, _⟩ => ⟨S16640x5632, .f32⟩
  | .hbm, ⟨20, _⟩ => ⟨S16640x5632, .f32⟩
  | .hbm, ⟨21, _⟩ => ⟨S16640x2048, .f32⟩
  | .hbm, ⟨22, _⟩ => ⟨S16384x2048, .f32⟩
  | .hbm, ⟨23, _⟩ => ⟨S1x2048, .f32⟩
  | .hbm, ⟨24, _⟩ => ⟨S2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S256x2048, .f32⟩
  | .hbm, ⟨31, _⟩ => ⟨S1x2048, .f32⟩
  | .hbm, ⟨32, _⟩ => ⟨S2048, .f32⟩
  | .hbm, ⟨33, _⟩ => ⟨S256x2048, .f32⟩
  | .hbm, ⟨34, _⟩ => ⟨S1x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S16640x2048, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel3.lean ====
abbrev S16640x2048 : Shape := ⟨2, ![16640, 2048]⟩
abbrev S1x2048x6144 : Shape := ⟨3, ![1, 2048, 6144]⟩
abbrev S2048x6144 : Shape := ⟨2, ![2048, 6144]⟩
abbrev S16640x6144 : Shape := ⟨2, ![16640, 6144]⟩
abbrev S1280x2048 : Shape := ⟨2, ![1280, 2048]⟩
abbrev S2048x1024 : Shape := ⟨2, ![2048, 1024]⟩
abbrev S1280x1024 : Shape := ⟨2, ![1280, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16640x2048, .f32⟩
  | .hbm, ⟨1, _⟩ => ⟨S1x2048x6144, .f32⟩
  | .hbm, ⟨2, _⟩ => ⟨S16640x2048, .bf16⟩
  | .hbm, ⟨3, _⟩ => ⟨S2048x6144, .f32⟩
  | .hbm, ⟨4, _⟩ => ⟨S2048x6144, .bf16⟩
  | .hbm, ⟨5, _⟩ => ⟨S16640x6144, .f32⟩
  | .local _ .vmem, ⟨0, _⟩ => ⟨S1280x2048, .bf16⟩
  | .local _ .vmem, ⟨1, _⟩ => ⟨S1280x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16640x2048 : Shape := ⟨2, ![16640, 2048]⟩
abbrev S1x2048x6144 : Shape := ⟨3, ![1, 2048, 6144]⟩
abbrev S2048x6144 : Shape := ⟨2, ![2048, 6144]⟩
abbrev S16640x6144 : Shape := ⟨2, ![16640, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S1x2048x6144, .f32⟩
  | .hbm, ⟨2, _⟩ => ⟨S2048x6144, .f32⟩
  | .hbm, ⟨3, _⟩ => ⟨S16640x6144, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Tables.lean ====
/- The experts' launch run at any tables in range (exact numbers). -/
module

public import proofs.«01_k».proof.Proof.Gen.KernelIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Tables

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The algebra the launch's assertions live over. -/
abbrev MM := MT nD τ sig Unit (Elt Ideal) ℕ (UR sig nD τ) ℕ
/-- The staging cells of the pipeline in that algebra. -/
abbrev EP : Emb (UR sig nD τ) MM := emb₁

/-- Two tables in range: every expert below 8, every flag 0 or 1. -/
structure Tab where
  te : S72.Idx → BitVec 32
  tv : S72.Idx → BitVec 32
  hte : ∀ x, (te x).toNat < 8
  htv : ∀ x, tv x = 0#32 ∨ tv x = 1#32

set_option backward.proofsInPublic true in
/-- The tables as the launch's prefetched contents. -/
def pfT (T : Tab) : pre0.Contents (Elt Ideal) := fun | ⟨0, _⟩ => T.te | ⟨1, _⟩ => T.tv | ⟨_ + 2, h⟩ => absurd h (by simp)

/-- The table entry at a position. -/
def ix (n : ℕ) (h : n < 72) : S72.Idx := fun | ⟨0, _⟩ => ⟨n, h⟩ | ⟨_ + 1, h⟩ => absurd h (by simp)
/-- The table entry of a grid point's tile. -/
def tile (i : grid0.Coords) : S72.Idx := ix (i 0).val (i 0).isLt

theorem off_val (i : grid0.Coords) : k0_off1 i 0 = (i 0).val := by
  show (BitVec.ofNat 32 (i 0).val).toNat = (i 0).val
  have h : (i 0).val < 72 := (i 0).isLt
  rw [BitVec.toNat_ofNat]; exact Nat.mod_eq_of_lt (by omega)

theorem point_eq (i : grid0.Coords) :
    (Rect.unit (s := S72) (k0_off1 i) S1.size (k0_off1_inb i)).emb (Shape.Idx.first (numel1_S1.symm ▸ Nat.one_pos)) = tile i := by
  funext a
  fin_cases a
  refine Fin.ext ?_
  rw [Rect.emb_apply]
  show k0_off1 i 0 + 1 * 0 = (i 0).val
  rw [off_val]; omega

theorem read_tv (T : Tab) (i : grid0.Coords) :
    View.readAt (Elt Ideal) (tbM0_1).view (Rect.unit (s := S72) (k0_off1 i) S1.size (k0_off1_inb i)).toLoadRect T.tv
      (Shape.Idx.first (numel1_S1.symm ▸ Nat.one_pos)) = T.tv (tile i) :=
  congrArg T.tv (point_eq i)

theorem read_tv2 (T : Tab) (i : grid0.Coords) :
    View.readAt (Elt Ideal) (tbM0_1).view (Rect.unit (s := S72) (k0_off2 i) S1.size (k0_off2_inb i)).toLoadRect T.tv
      (Shape.Idx.first (numel1_S1.symm ▸ Nat.one_pos)) = T.tv (tile i) :=
  congrArg T.tv (point_eq i)

theorem atD_tv (T : Tab) (i : grid0.Coords) : (pfT T).atD 1 (k0_off1 i) = T.tv (tile i) := by
  have h : ∀ a : Fin 1, k0_off1 i a + 1 ≤ S72.size a := by
    intro a; fin_cases a
    show k0_off1 i 0 + 1 ≤ 72
    rw [off_val]; exact (i 0).isLt
  have e : (pfT T).atD 1 (k0_off1 i) = T.tv (fun a => ⟨k0_off1 i a, h a⟩) := dif_pos h
  rw [e]
  congr 1
  funext a; fin_cases a
  exact Fin.ext (off_val i)

theorem at_te (T : Tab) (i : grid0.Coords) :
    (pfT T).at 0 (Rect.unit (s := S72) (k0_off1 i) S1.size (k0_off1_inb i)) numel1_S1 = T.te (tile i) :=
  congrArg T.te (point_eq i)

theorem sel_le (c : BitVec 1) (f : Fin 14) : (Scalar.select c (BitVec.ofNat 32 f.val) 13#32).toNat ≤ 13 := by
  revert f; revert c; decide

/-- The chunk of the feed-forward width a point reads: its own, or the last one of an unused tile. -/
def chunk (T : Tab) (i : grid0.Coords) : ℕ :=
  (Scalar.select (Scalar.cmpi .eq (T.tv (tile i)) 1#32) (BitVec.ofNat 32 (i 1).val) 13#32).toNat

theorem chunk_le (T : Tab) (i : grid0.Coords) : chunk T i ≤ 13 := sel_le _ (i 1)

theorem tr1 (T : Tab) (i : grid0.Coords) : cc0_transform_1 k0_off1_inb numel1_S1 (pfT T) i = ![(T.te (tile i)).toNat, 0, chunk T i] := by
  have h1 := at_te T i
  have h2 := read_tv T i
  unfold chunk
  rw [← h1, ← h2]; rfl
theorem tr2 (T : Tab) (i : grid0.Coords) : cc0_transform_2 k0_off1_inb numel1_S1 (pfT T) i = ![(T.te (tile i)).toNat, 0, chunk T i] := by
  have h1 := at_te T i
  have h2 := read_tv T i
  unfold chunk
  rw [← h1, ← h2]; rfl
theorem tr3 (T : Tab) (i : grid0.Coords) : cc0_transform_3 k0_off1_inb numel1_S1 (pfT T) i = ![(T.te (tile i)).toNat, chunk T i, 0] := by
  have h1 := at_te T i
  have h2 := read_tv T i
  unfold chunk
  rw [← h1, ← h2]; rfl

theorem inb1 (T : Tab) (i : grid0.Coords) (a) : (cc0_transform_1 k0_off1_inb numel1_S1 (pfT T) i a + 1) * S1x2048x512.size a ≤ S8x2048x7168.size a := by
  have h := T.hte (tile i)
  have h' := chunk_le T i
  rw [tr1]
  fin_cases a
  · show ((T.te (tile i)).toNat + 1) * 1 ≤ 8; omega
  · show (0 + 1) * 2048 ≤ 2048; omega
  · show (chunk T i + 1) * 512 ≤ 7168; omega
theorem inb2 (T : Tab) (i : grid0.Coords) (a) : (cc0_transform_2 k0_off1_inb numel1_S1 (pfT T) i a + 1) * S1x2048x512.size a ≤ S8x2048x7168.size a := by
  have h := T.hte (tile i)
  have h' := chunk_le T i
  rw [tr2]
  fin_cases a
  · show ((T.te (tile i)).toNat + 1) * 1 ≤ 8; omega
  · show (0 + 1) * 2048 ≤ 2048; omega
  · show (chunk T i + 1) * 512 ≤ 7168; omega
theorem inb3 (T : Tab) (i : grid0.Coords) (a) : (cc0_transform_3 k0_off1_inb numel1_S1 (pfT T) i a + 1) * S1x512x2048.size a ≤ S8x7168x2048.size a := by
  have h := T.hte (tile i)
  have h' := chunk_le T i
  rw [tr3]
  fin_cases a
  · show ((T.te (tile i)).toNat + 1) * 1 ≤ 8; omega
  · show (chunk T i + 1) * 512 ≤ 7168; omega
  · show (0 + 1) * 2048 ≤ 2048; omega

/-- Every block the launch takes at tables in range lies inside its array. -/
theorem okT (T : Tab) : ok0 (F := Ideal) (pfT T) :=
  ⟨fun i => ⟨inb1 T i, .inr (Affine.block_words_dvd (s := S8x2048x7168) (p := EltTy.packing .bf16) (by decide) (by decide))⟩,
   fun i => ⟨inb2 T i, .inr (Affine.block_words_dvd (s := S8x2048x7168) (p := EltTy.packing .bf16) (by decide) (by decide))⟩,
   fun i => ⟨inb3 T i, .inr (Affine.block_words_dvd (s := S8x7168x2048) (p := EltTy.packing .bf16) (by decide) (by decide))⟩⟩

variable (T : Tab)

/-- The pipeline at the tables `T`. -/
def adm : (pcfg0 (F := Ideal)).Adm := ⟨pfT T, okT T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- The coordinates of a point. -/
abbrev crd (t : Fin (cfgA T).N) : grid0.Coords := (cfgA T).grid.coords t

theorem crd0 (t : Fin (cfgA T).N) : (crd T t 0).val = t.val / 14 := by
  have h : (crd T t 0).val = t.val / 14 % 72 := Pipeline.Grid.coords_val (G := grid0) t 0 (S := 14) (B := 72) (by decide) rfl
  have h' : t.val < 1008 := t.isLt
  omega
theorem crd1 (t : Fin (cfgA T).N) : (crd T t 1).val = t.val % 14 := by
  have h : (crd T t 1).val = t.val / 1 % 14 := Pipeline.Grid.coords_val (G := grid0) t 1 (S := 1) (B := 14) (by decide) rfl
  rw [h, Nat.div_one]

abbrev ms_0 (t : Fin (cfgA T).N) : Memref sig .tc .vmem S512x2048 .f32 := spec0_0.stage ((cfgA T).slots t (0 : Fin 5))
abbrev hs_0 (t : Fin (cfgA T).N) : (ms_0 T t).IsWhole := hstage0_0 (((cfgA T).slots t (0 : Fin 5)).cast nbuf0_0)
abbrev ms_1 (t : Fin (cfgA T).N) : Memref sig .tc .vmem S1x2048x512 .bf16 := spec0_1.stage ((cfgA T).slots t (1 : Fin 5))
abbrev hs_1 (t : Fin (cfgA T).N) : (ms_1 T t).IsWhole := hstage0_1 (((cfgA T).slots t (1 : Fin 5)).cast nbuf0_1)
abbrev ms_2 (t : Fin (cfgA T).N) : Memref sig .tc .vmem S1x2048x512 .bf16 := spec0_2.stage ((cfgA T).slots t (2 : Fin 5))
abbrev hs_2 (t : Fin (cfgA T).N) : (ms_2 T t).IsWhole := hstage0_2 (((cfgA T).slots t (2 : Fin 5)).cast nbuf0_2)
abbrev ms_3 (t : Fin (cfgA T).N) : Memref sig .tc .vmem S1x512x2048 .bf16 := spec0_3.stage ((cfgA T).slots t (3 : Fin 5))
abbrev hs_3 (t : Fin (cfgA T).N) : (ms_3 T t).IsWhole := hstage0_3 (((cfgA T).slots t (3 : Fin 5)).cast nbuf0_3)
abbrev ms_4 (t : Fin (cfgA T).N) : Memref sig .tc .vmem S512x2048 .f32 := spec0_4.stage ((cfgA T).slots t (4 : Fin 5))
abbrev hs_4 (t : Fin (cfgA T).N) : (ms_4 T t).IsWhole := hstage0_4 (((cfgA T).slots t (4 : Fin 5)).cast nbuf0_4)

/-- Window `w`'s block at a point, read off its array as launched. -/
def iblk (c : Dev nD) (w : Fin (cfgA T).W) (t : Fin (cfgA T).N) : (((cfgA T).win w).xblock ((cfgA T).grid.coords t)).Idx → Elt Ideal ((cfgA T).win w).elt :=
  (((cfgA T).win w).blk t).view.read (Elt Ideal) ((s₀ m ρ).mem (((cfgA T).win w).arr.view.loc (c : Thread nD τ)))

/-! ## What the body decides at a point -/

/-- The tile of the point is used. -/
abbrev Used (t : Fin (cfgA T).N) : Prop := T.tv (tile (crd T t)) = 1#32

theorem not_used {t : Fin (cfgA T).N} (h : ¬Used T t) : T.tv (tile (crd T t)) = 0#32 :=
  (T.htv (tile (crd T t))).resolve_right h

abbrev C1 (t : Fin (cfgA T).N) : Prop := k0_cond1 (View.readAt (Elt Ideal) (tbM0_1).view (Rect.unit (s := S72) (k0_off1 (crd T t)) S1.size (k0_off1_inb (crd T t))).toLoadRect T.tv (Shape.Idx.first (numel1_S1.symm ▸ Nat.one_pos))) = 1#1
abbrev C2 (t : Fin (cfgA T).N) : Prop := (Scalar.cmpi .ne (Scalar.extui (Scalar.cmpi .eq (BitVec.ofNat 32 ((crd T t) 1).val) 0#32)) 0#32) = 1#1
abbrev C4 (t : Fin (cfgA T).N) : Prop := (Scalar.cmpi .ne (Scalar.extui (Scalar.cmpi .sgt (BitVec.ofNat 32 ((crd T t) 1).val) 0#32)) 0#32) = 1#1
abbrev C5 (t : Fin (cfgA T).N) : Prop := k0_cond5 (crd T t) = 1#1
abbrev C6 (t : Fin (cfgA T).N) : Prop := k0_cond6 (crd T t) (View.readAt (Elt Ideal) (tbM0_1).view (Rect.unit (s := S72) (k0_off2 (crd T t)) S1.size (k0_off2_inb (crd T t))).toLoadRect T.tv (Shape.Idx.first (numel1_S1.symm ▸ Nat.one_pos))) = 1#1

theorem c1 (t : Fin (cfgA T).N) : C1 T t ↔ Used T t := by
  unfold C1; rw [read_tv]
  rcases T.htv (tile (crd T t)) with h | h <;> rw [Used, h] <;> decide
theorem c2 (t : Fin (cfgA T).N) : C2 T t ↔ t.val % 14 = 0 := by
  rw [← crd1]; unfold C2; generalize (crd T t) 1 = f
  exact (by decide : ∀ f : Fin 14, (Scalar.cmpi .ne (Scalar.extui (Scalar.cmpi .eq (BitVec.ofNat 32 f.val) 0#32)) 0#32) = 1#1 ↔ f.val = 0) f
theorem c4 (t : Fin (cfgA T).N) : C4 T t ↔ ¬t.val % 14 = 0 := by
  rw [← crd1]; unfold C4; generalize (crd T t) 1 = f
  exact (by decide : ∀ f : Fin 14, (Scalar.cmpi .ne (Scalar.extui (Scalar.cmpi .sgt (BitVec.ofNat 32 f.val) 0#32)) 0#32) = 1#1 ↔ ¬f.val = 0) f
theorem c5 (t : Fin (cfgA T).N) : C5 T t ↔ t.val % 14 = 13 := by
  rw [← crd1]; unfold C5 k0_cond5; generalize (crd T t) 1 = f
  exact (by decide : ∀ f : Fin 14, (Scalar.cmpi .ne (Scalar.extui (Scalar.cmpi .eq (BitVec.ofNat 32 f.val) 13#32)) 0#32) = 1#1 ↔ f.val = 13) f
theorem c6_used {t : Fin (cfgA T).N} (h : Used T t) : ¬C6 T t := by
  unfold C6; rw [read_tv2, h]; unfold k0_cond6; generalize (crd T t) 1 = f
  exact (by decide : ∀ f : Fin 14, ¬(Scalar.cmpi .ne (Scalar.extui (Scalar.andi (Scalar.cmpi .eq 1#32 0#32) (Scalar.cmpi .eq (BitVec.ofNat 32 f.val) 13#32))) 0#32) = 1#1) f
theorem c6_free {t : Fin (cfgA T).N} (h : ¬Used T t) : C6 T t ↔ t.val % 14 = 13 := by
  rw [← crd1]; unfold C6; rw [read_tv2, not_used T h]; unfold k0_cond6; generalize (crd T t) 1 = f
  exact (by decide : ∀ f : Fin 14, (Scalar.cmpi .ne (Scalar.extui (Scalar.andi (Scalar.cmpi .eq 0#32 0#32) (Scalar.cmpi .eq (BitVec.ofNat 32 f.val) 13#32))) 0#32) = 1#1 ↔ f.val = 13) f

/-- The result is written back after a tile's last point. -/
theorem flush4 (t : Fin (cfgA T).N) : ((cfgA T).win (4 : Fin 5)).flush t = true ↔ t.val % 14 = 13 :=
  Pipeline.Window.flush_reads (win0 (adm T) 4) rfl 0 (by decide) (by show grid0.fixedAfter ![true, false] 0 = true; decide) (Pipeline.Window.sep_of_coord cc0_transform_4 0 0 (fun _ => rfl) (by decide)) (P := 14) (m := 13) (by decide) rfl t

/-- The body stores the result exactly at a tile's last point. -/
theorem idle4 (t : Fin (cfgA T).N) : (cfgA T).idle (4 : Fin 5) ((cfgA T).grid.coords t) = decide (¬t.val % 14 = 13) := by
  have e : (cfgA T).idle (4 : Fin 5) ((cfgA T).grid.coords t)
      = (!(k0_cond1 ((pfT T).atD 1 (k0_off1 (crd T t))) == 1#1 && k0_cond5 (crd T t) == 1#1)
        && !(k0_cond6 (crd T t) ((pfT T).atD 1 (k0_off1 (crd T t))) == 1#1)) := rfl
  rw [e, atD_tv]
  have h1 := c1 T t; have h5 := c5 T t
  unfold C1 at h1; rw [read_tv] at h1
  unfold C5 at h5
  by_cases hv : Used T t
  · have h6 := c6_used T hv
    unfold C6 at h6; rw [read_tv2] at h6
    have b1 := h1.mpr hv
    by_cases h : t.val % 14 = 13
    · have b5 := h5.mpr h
      simp [b1, b5, h]
    · have b5 : ¬k0_cond5 (crd T t) = 1#1 := fun hc => h (h5.mp hc)
      simp [b5, h6, h]
  · have h6 := c6_free T hv
    unfold C6 at h6; rw [read_tv2] at h6
    have b1 : ¬k0_cond1 (T.tv (tile (crd T t))) = 1#1 := fun hc => hv (h1.mp hc)
    by_cases h : t.val % 14 = 13
    · have b6 := h6.mpr h
      simp [b6, h]
    · have b6 : ¬k0_cond6 (crd T t) (T.tv (tile (crd T t))) = 1#1 := fun hc => h (h6.mp hc)
      simp [b1, b6, h]

theorem fresh4 (t : Fin (cfgA T).N) : (cfgA T).fresh (4 : Fin 5) t.val = true :=
  Pipeline.Cfg.fresh_tab (cfgA T) (4 : Fin 5) (fun _ => true) rfl (fun t => by
    have h := flush4 T t
    rw [idle4]
    by_cases h13 : t.val % 14 = 13
    · rw [h.mpr h13]; rfl
    · simp [h13]) t.val (Nat.le_of_lt t.isLt)

theorem flush4_eq (t : Fin (cfgA T).N) : ((cfgA T).win (4 : Fin 5)).flush t = decide (t.val % 14 = 13) := by
  by_cases h : t.val % 14 = 13
  · rw [(flush4 T t).mpr h]; simp [h]
  · have : ¬((cfgA T).win (4 : Fin 5)).flush t = true := fun hc => h ((flush4 T t).mp hc)
    rw [Bool.not_eq_true] at this
    rw [this]; simp [h]

/-! ## The five ways through the body, at a point -/

/-- A used tile's first point. -/
abbrev runA (c : Dev nD) (t : Fin (cfgA T).N) (hv : Used T t) (h0 : t.val % 14 = 0) :=
  kernelRun0_A c (crd T t) (ms_0 T t) (hs_0 T t) (ms_1 T t) (hs_1 T t) (ms_2 T t) (hs_2 T t) (ms_3 T t) (hs_3 T t) (ms_4 T t) (hs_4 T t) T.te T.tv (iblk T m ρ c (0 : Fin 5) t) (iblk T m ρ c (1 : Fin 5) t) (iblk T m ρ c (2 : Fin 5) t) (iblk T m ρ c (3 : Fin 5) t) ((c1 T t).mpr hv) ((c2 T t).mpr h0) ((c2 T t).mpr h0) (fun h => (c4 T t).mp h h0) (fun h => absurd ((c5 T t).mp h) (by omega)) (c6_used T hv)
/-- A used tile's inner points. -/
abbrev runB (c : Dev nD) (t : Fin (cfgA T).N) (hv : Used T t) (h0 : ¬t.val % 14 = 0) (h13 : ¬t.val % 14 = 13) (xa : Buf (Elt Ideal) ((c : Thread nD τ).loc cc0_scratch0)) (xb : Buf (Elt Ideal) ((c : Thread nD τ).loc cc0_scratch1)) :=
  kernelRun0_B c (crd T t) (ms_0 T t) (hs_0 T t) (ms_1 T t) (hs_1 T t) (ms_2 T t) (hs_2 T t) (ms_3 T t) (hs_3 T t) (ms_4 T t) (hs_4 T t) T.te T.tv (iblk T m ρ c (0 : Fin 5) t) (iblk T m ρ c (1 : Fin 5) t) (iblk T m ρ c (2 : Fin 5) t) (iblk T m ρ c (3 : Fin 5) t) xa xb ((c1 T t).mpr hv) (fun h => h0 ((c2 T t).mp h)) (fun h => h0 ((c2 T t).mp h)) ((c4 T t).mpr h0) (fun h => h13 ((c5 T t).mp h)) (c6_used T hv)
/-- A used tile's last point. -/
abbrev runC (c : Dev nD) (t : Fin (cfgA T).N) (hv : Used T t) (h13 : t.val % 14 = 13) (xa : Buf (Elt Ideal) ((c : Thread nD τ).loc cc0_scratch0)) (xb : Buf (Elt Ideal) ((c : Thread nD τ).loc cc0_scratch1)) :=
  kernelRun0_C c (crd T t) (ms_0 T t) (hs_0 T t) (ms_1 T t) (hs_1 T t) (ms_2 T t) (hs_2 T t) (ms_3 T t) (hs_3 T t) (ms_4 T t) (hs_4 T t) T.te T.tv (iblk T m ρ c (0 : Fin 5) t) (iblk T m ρ c (1 : Fin 5) t) (iblk T m ρ c (2 : Fin 5) t) (iblk T m ρ c (3 : Fin 5) t) xa xb ((c1 T t).mpr hv) (fun h => absurd ((c2 T t).mp h) (by omega)) (fun h => absurd ((c2 T t).mp h) (by omega)) ((c4 T t).mpr (by omega)) ((c5 T t).mpr h13) (c6_used T hv)
/-- What it stores into the result's block. -/
abbrev outC (c : Dev nD) (t : Fin (cfgA T).N) (hv : Used T t) (h13 : t.val % 14 = 13) (xa : Buf (Elt Ideal) ((c : Thread nD τ).loc cc0_scratch0)) (xb : Buf (Elt Ideal) ((c : Thread nD τ).loc cc0_scratch1)) : S512x2048.Idx → Elt Ideal .f32 :=
  out0_C_4 c (crd T t) (ms_0 T t) (hs_0 T t) (ms_1 T t) (hs_1 T t) (ms_2 T t) (hs_2 T t) (ms_3 T t) (hs_3 T t) (ms_4 T t) (hs_4 T t) T.te T.tv (iblk T m ρ c (0 : Fin 5) t) (iblk T m ρ c (1 : Fin 5) t) (iblk T m ρ c (2 : Fin 5) t) (iblk T m ρ c (3 : Fin 5) t) xa xb ((c1 T t).mpr hv) (fun h => absurd ((c2 T t).mp h) (by omega)) (fun h => absurd ((c2 T t).mp h) (by omega)) ((c4 T t).mpr (by omega)) ((c5 T t).mpr h13) (c6_used T hv)
/-- An unused tile's points before the last. -/
abbrev runD (c : Dev nD) (t : Fin (cfgA T).N) (hv : ¬Used T t) (h13 : ¬t.val % 14 = 13) (xa : Buf (Elt Ideal) ((c : Thread nD τ).loc cc0_scratch0)) (xb : Buf (Elt Ideal) ((c : Thread nD τ).loc cc0_scratch1)) :=
  kernelRun0_D c (crd T t) (ms_0 T t) (hs_0 T t) (ms_1 T t) (hs_1 T t) (ms_2 T t) (hs_2 T t) (ms_3 T t) (hs_3 T t) (ms_4 T t) (hs_4 T t) T.te T.tv (iblk T m ρ c (0 : Fin 5) t) (iblk T m ρ c (1 : Fin 5) t) (iblk T m ρ c (2 : Fin 5) t) (iblk T m ρ c (3 : Fin 5) t) xa xb (fun h => hv ((c1 T t).mp h)) (fun h => h13 ((c6_free T hv).mp h))
/-- An unused tile's last point. -/
abbrev runE (c : Dev nD) (t : Fin (cfgA T).N) (hv : ¬Used T t) (h13 : t.val % 14 = 13) (xa : Buf (Elt Ideal) ((c : Thread nD τ).loc cc0_scratch0)) (xb : Buf (Elt Ideal) ((c : Thread nD τ).loc cc0_scratch1)) :=
  kernelRun0_E c (crd T t) (ms_0 T t) (hs_0 T t) (ms_1 T t) (hs_1 T t) (ms_2 T t) (hs_2 T t) (ms_3 T t) (hs_3 T t) (ms_4 T t) (hs_4 T t) T.te T.tv (iblk T m ρ c (0 : Fin 5) t) (iblk T m ρ c (1 : Fin 5) t) (iblk T m ρ c (2 : Fin 5) t) (iblk T m ρ c (3 : Fin 5) t) xa xb (fun h => hv ((c1 T t).mp h)) ((c6_free T hv).mpr h13)
/-- What it stores into the result's block. -/
abbrev outE (c : Dev nD) (t : Fin (cfgA T).N) (hv : ¬Used T t) (h13 : t.val % 14 = 13) (xa : Buf (Elt Ideal) ((c : Thread nD τ).loc cc0_scratch0)) (xb : Buf (Elt Ideal) ((c : Thread nD τ).loc cc0_scratch1)) : S512x2048.Idx → Elt Ideal .f32 :=
  out0_E_4 c (crd T t) (ms_0 T t) (hs_0 T t) (ms_1 T t) (hs_1 T t) (ms_2 T t) (hs_2 T t) (ms_3 T t) (hs_3 T t) (ms_4 T t) (hs_4 T t) T.te T.tv (iblk T m ρ c (0 : Fin 5) t) (iblk T m ρ c (1 : Fin 5) t) (iblk T m ρ c (2 : Fin 5) t) (iblk T m ρ c (3 : Fin 5) t) xa xb (fun h => hv ((c1 T t).mp h)) ((c6_free T hv).mpr h13)

/-- The unused tile's store does not depend on what the scratch buffers hold. -/
theorem outE_const (c : Dev nD) (t : Fin (cfgA T).N) (hv : ¬Used T t) (h13 : t.val % 14 = 13) (xa ya : Buf (Elt Ideal) ((c : Thread nD τ).loc cc0_scratch0)) (xb yb : Buf (Elt Ideal) ((c : Thread nD τ).loc cc0_scratch1)) :
    outE T m ρ c t hv h13 xa xb = outE T m ρ c t hv h13 ya yb := rfl

/-! ## The scratch buffers and the result's block after each point -/

/-- The two scratch buffers after a point, from what they held before. -/
def step (c : Dev nD) (t : Fin (cfgA T).N) (p : Buf (Elt Ideal) ((c : Thread nD τ).loc cc0_scratch0) × Buf (Elt Ideal) ((c : Thread nD τ).loc cc0_scratch1)) : Buf (Elt Ideal) ((c : Thread nD τ).loc cc0_scratch0) × Buf (Elt Ideal) ((c : Thread nD τ).loc cc0_scratch1) :=
  if hv : Used T t then
    if h0 : t.val % 14 = 0 then ((runA T m ρ c t hv h0).1, (runA T m ρ c t hv h0).2.1)
    else if h13 : t.val % 14 = 13 then ((runC T m ρ c t hv h13 p.1 p.2).2.1, (runC T m ρ c t hv h13 p.1 p.2).2.2.1)
    else ((runB T m ρ c t hv h0 h13 p.1 p.2).1, (runB T m ρ c t hv h0 h13 p.1 p.2).2.1)
  else p

/-- The scratch buffers after position `n`. -/
def traj (c : Dev nD) : (n : ℕ) → n < (cfgA T).N → Buf (Elt Ideal) ((c : Thread nD τ).loc cc0_scratch0) × Buf (Elt Ideal) ((c : Thread nD τ).loc cc0_scratch1)
  | 0, h => step T m ρ c ⟨0, h⟩ (default, default)
  | n + 1, h => step T m ρ c ⟨n + 1, h⟩ (traj c n (Nat.lt_of_succ_lt h))

/-- The scratch buffers before point `t`. -/
def prev (c : Dev nD) (t : Fin (cfgA T).N) : Buf (Elt Ideal) ((c : Thread nD τ).loc cc0_scratch0) × Buf (Elt Ideal) ((c : Thread nD τ).loc cc0_scratch1) :=
  if h : t.val = 0 then (default, default) else traj T m ρ c (t.val - 1) (by omega)

theorem traj_eq (c : Dev nD) (t : Fin (cfgA T).N) : traj T m ρ c t.val t.isLt = step T m ρ c t (prev T m ρ c t) := by
  obtain ⟨n, hn⟩ := t
  cases n with
  | zero => rfl
  | succ n => unfold prev; simp only [Nat.add_one_ne_zero, dif_neg, not_false_eq_true]; rfl

theorem step_A (c : Dev nD) (t : Fin (cfgA T).N) (p) (hv : Used T t) (h0 : t.val % 14 = 0) :
    step T m ρ c t p = ((runA T m ρ c t hv h0).1, (runA T m ρ c t hv h0).2.1) := by
  unfold step; rw [dif_pos hv, dif_pos h0]
theorem step_B (c : Dev nD) (t : Fin (cfgA T).N) (p) (hv : Used T t) (h0 : ¬t.val % 14 = 0) (h13 : ¬t.val % 14 = 13) :
    step T m ρ c t p = ((runB T m ρ c t hv h0 h13 p.1 p.2).1, (runB T m ρ c t hv h0 h13 p.1 p.2).2.1) := by
  unfold step; rw [dif_pos hv, dif_neg h0, dif_neg h13]
theorem step_C (c : Dev nD) (t : Fin (cfgA T).N) (p) (hv : Used T t) (h0 : ¬t.val % 14 = 0) (h13 : t.val % 14 = 13) :
    step T m ρ c t p = ((runC T m ρ c t hv h13 p.1 p.2).2.1, (runC T m ρ c t hv h13 p.1 p.2).2.2.1) := by
  unfold step; rw [dif_pos hv, dif_neg h0, dif_pos h13]

/-- What the result's staging buffer holds after point `t` stores it. -/
def outs (c : Dev nD) (t : Fin (cfgA T).N) : S512x2048.Idx → Elt Ideal .f32 :=
  if h13 : t.val % 14 = 13 then
    if hv : Used T t then outC T m ρ c t hv h13 (prev T m ρ c t).1 (prev T m ρ c t).2
    else outE T m ρ c t hv h13 default default
  else default

theorem outs_C (c : Dev nD) (t : Fin (cfgA T).N) (hv : Used T t) (h13 : t.val % 14 = 13) :
    outs T m ρ c t = outC T m ρ c t hv h13 (prev T m ρ c t).1 (prev T m ρ c t).2 := by
  unfold outs; rw [dif_pos h13, dif_pos hv]
theorem outs_E (c : Dev nD) (t : Fin (cfgA T).N) (hv : ¬Used T t) (h13 : t.val % 14 = 13) :
    outs T m ρ c t = outE T m ρ c t hv h13 default default := by
  unfold outs; rw [dif_pos h13, dif_neg hv]

/-- The flag of the tile a position lies in. -/
def flag (n : ℕ) : BitVec 32 := if h : n / 14 < 72 then T.tv (ix (n / 14) h) else 0#32

theorem flag_eq (t : Fin (cfgA T).N) (n : ℕ) (hn : n / 14 = t.val / 14) : flag T n = T.tv (tile (crd T t)) := by
  have ht : t.val < 1008 := t.isLt
  have h : n / 14 < 72 := by omega
  unfold flag
  rw [dif_pos h]
  congr 1
  funext a; fin_cases a
  refine Fin.ext ?_
  show n / 14 = (crd T t 0).val
  rw [crd0, hn]

/-- The scratch buffers hold a running sum before position `n`. -/
def Held (n : ℕ) : Prop := ¬n % 14 = 0 ∧ flag T n = 1#32

theorem held_now {t : Fin (cfgA T).N} (hv : Used T t) (h0 : ¬t.val % 14 = 0) : Held T t.val :=
  ⟨h0, (flag_eq T t t.val rfl).trans hv⟩
theorem not_held_next {t : Fin (cfgA T).N} (hv : ¬Used T t) : ¬Held T (t.val + 1) := by
  rintro ⟨h0, hf⟩
  exact hv ((flag_eq T t (t.val + 1) (by omega)).symm.trans hf)

def prevT (c : Dev nD) (t : Fin ((cfgA T).N + 1)) : Buf (Elt Ideal) ((c : Thread nD τ).loc cc0_scratch0) × Buf (Elt Ideal) ((c : Thread nD τ).loc cc0_scratch1) :=
  if h : t.val = 0 then (default, default) else traj T m ρ c (t.val - 1) (by omega)

theorem prevT_castSucc (c : Dev nD) (t : Fin (cfgA T).N) : prevT T m ρ c t.castSucc = prev T m ρ c t := by
  unfold prevT prev; simp only [Fin.val_castSucc]
theorem prevT_succ (c : Dev nD) (t : Fin (cfgA T).N) : prevT T m ρ c t.succ = traj T m ρ c t.val t.isLt := by
  unfold prevT; simp only [Fin.val_succ, Nat.add_one_ne_zero, ↓reduceDIte, Nat.add_one_sub_one]

/-- Before point `t`: the scratch buffers at the running sum where there is one, and the body's share of the tables. -/
def Phi (c : Dev nD) (t : Fin ((cfgA T).N + 1)) : sProp MM :=
  iprop((∃ a, ⌜Held T t.val → a = (prevT T m ρ c t).1⌝ ∗ (scM0_0.view.loc (c : Thread nD τ) ↦{fullShare} a)) ∗ (∃ a, ⌜Held T t.val → a = (prevT T m ρ c t).2⌝ ∗ (scM0_1.view.loc (c : Thread nD τ) ↦{fullShare} a)) ∗ (tbM0_0.view.loc (c : Thread nD τ) ↦{fullShare.right} T.te) ∗ (tbM0_1.view.loc (c : Thread nD τ) ↦{fullShare.right} T.tv))

/-- The proof data of the pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outs T m ρ c t
  Φ t := Phi T m ρ c t
  q _ := fullShare
  owed _ := 0

theorem after_0 (c : Dev nD) (t : Fin (cfgA T).N) : (dats T m ρ 0 c).after (0 : Fin 5) t = iblk T m ρ c (0 : Fin 5) t := rfl
theorem after_1 (c : Dev nD) (t : Fin (cfgA T).N) : (dats T m ρ 0 c).after (1 : Fin 5) t = iblk T m ρ c (1 : Fin 5) t := rfl
theorem after_2 (c : Dev nD) (t : Fin (cfgA T).N) : (dats T m ρ 0 c).after (2 : Fin 5) t = iblk T m ρ c (2 : Fin 5) t := rfl
theorem after_3 (c : Dev nD) (t : Fin (cfgA T).N) : (dats T m ρ 0 c).after (3 : Fin 5) t = iblk T m ρ c (3 : Fin 5) t := rfl
theorem after_4 (c : Dev nD) (t : Fin (cfgA T).N) : (dats T m ρ 0 c).after (4 : Fin 5) t = outs T m ρ c t := rfl

theorem before_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The result's staging buffer holds nothing of use when the body runs. -/
theorem before_4 (c : Dev nD) (t : Fin (cfgA T).N) (d) : (dats T m ρ 0 c).before (4 : Fin 5) t d = d := by
  rw [(dats T m ρ 0 c).before_out_traj (4 : Fin 5) rfl (fun _ _ => rfl)
    (fun t _ _ hf => absurd ((fresh4 T t).symm.trans hf) (by decide)) t.val t rfl d, fresh4 T t]
  rfl

abbrev bodyAt (t : Fin (cfgA T).N) : Prog (TpuEff nD τ sig (Elt Ideal) Λ₀ .tc) PUnit :=
  cc0_moe_experts (crd T t) (Memref.whole main_arg1) (Memref.isWhole_whole _) (Memref.whole main_arg2) (Memref.isWhole_whole _) (ms_0 T t) (hs_0 T t) (ms_1 T t) (hs_1 T t) (ms_2 T t) (hs_2 T t) (ms_3 T t) (hs_3 T t) (ms_4 T t) (hs_4 T t) (Memref.whole cc0_scratch0) (Memref.isWhole_whole _) (Memref.whole cc0_scratch1) (Memref.isWhole_whole _)

set_option maxHeartbeats 4000000 in
/-- The body at a point, on its staging buffers and the invariant. -/
theorem sound_body (c : Dev nD) (t : Fin (cfgA T).N) :
    iprop((dats T m ρ 0 c).Φ t.castSucc ∗ (dats T m ρ 0 c).owesAt () t.castSucc
        ∗ (∃ d, owns (c : Thread nD τ) (ms_0 T t) fullShare ((dats T m ρ 0 c).before (0 : Fin 5) t d))
        ∗ (∃ d, owns (c : Thread nD τ) (ms_1 T t) fullShare ((dats T m ρ 0 c).before (1 : Fin 5) t d))
        ∗ (∃ d, owns (c : Thread nD τ) (ms_2 T t) fullShare ((dats T m ρ 0 c).before (2 : Fin 5) t d))
        ∗ (∃ d, owns (c : Thread nD τ) (ms_3 T t) fullShare ((dats T m ρ 0 c).before (3 : Fin 5) t d))
        ∗ (∃ d, owns (c : Thread nD τ) (ms_4 T t) fullShare ((dats T m ρ 0 c).before (4 : Fin 5) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases hv : Used T t
  · by_cases h0 : t.val % 14 = 0
    · have h13 : ¬t.val % 14 = 13 := by omega
      have i4 : (cfgA T).idle (4 : Fin 5) ((cfgA T).grid.coords t) = true := by rw [idle4]; simp [h13]
      have f4 : ((cfgA T).win (4 : Fin 5)).flush t = false := by rw [flush4_eq]; simp [h13]
      rewrite [i4]
      simp only [before_0, before_1, before_2, before_3, before_4, after_0, after_1, after_2, after_3, after_4, f4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi; simp only [prevT_castSucc, prevT_succ, Fin.val_castSucc, Fin.val_succ, traj_eq, step_A T m ρ c t _ hv h0]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((runA T m ρ c t hv h0).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; rfl
        isplitl [HS1]
        · iexists _; isplitr; swap
          · iexact HS1
          · ipureintro; intro hn; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · by_cases h13 : t.val % 14 = 13
      · have i4 : (cfgA T).idle (4 : Fin 5) ((cfgA T).grid.coords t) = false := by rw [idle4]; simp [h13]
        have f4 : ((cfgA T).win (4 : Fin 5)).flush t = true := by rw [flush4_eq]; simp [h13]
        rewrite [i4]
        simp only [before_0, before_1, before_2, before_3, before_4, after_0, after_1, after_2, after_3, after_4, f4]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        rewrite [outs_C T m ρ c t hv h13]
        unfold Phi; simp only [prevT_castSucc, prevT_succ, Fin.val_castSucc, Fin.val_succ, traj_eq, step_C T m ρ c t _ hv h0 h13]
        simp only [exists_held (held_now T hv h0)]
        iintro ⟨⟨HS0, HS1, HT0, HT1⟩, Ho, ⟨%d0, H0⟩, ⟨%d1, H1⟩, ⟨%d2, H2⟩, ⟨%d3, H3⟩, ⟨%d4, H4⟩⟩
        iapply ((runC T m ρ c t hv h13 _ _).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; rfl
          isplitl [HS1]
          · iexists _; isplitr; swap
            · iexact HS1
            · ipureintro; intro hn; rfl
          isplitl [HT0]
          · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _ _ _)
      · have i4 : (cfgA T).idle (4 : Fin 5) ((cfgA T).grid.coords t) = true := by rw [idle4]; simp [h13]
        have f4 : ((cfgA T).win (4 : Fin 5)).flush t = false := by rw [flush4_eq]; simp [h13]
        rewrite [i4]
        simp only [before_0, before_1, before_2, before_3, before_4, after_0, after_1, after_2, after_3, after_4, f4]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        unfold Phi; simp only [prevT_castSucc, prevT_succ, Fin.val_castSucc, Fin.val_succ, traj_eq, step_B T m ρ c t _ hv h0 h13]
        simp only [exists_held (held_now T hv h0)]
        iintro ⟨⟨HS0, HS1, HT0, HT1⟩, Ho, ⟨%d0, H0⟩, ⟨%d1, H1⟩, ⟨%d2, H2⟩, ⟨%d3, H3⟩, ⟨%d4, H4⟩⟩
        iapply ((runB T m ρ c t hv h0 h13 _ _).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; rfl
          isplitl [HS1]
          · iexists _; isplitr; swap
            · iexact HS1
            · ipureintro; intro hn; rfl
          isplitl [HT0]
          · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
  · by_cases h13 : t.val % 14 = 13
    · have i4 : (cfgA T).idle (4 : Fin 5) ((cfgA T).grid.coords t) = false := by rw [idle4]; simp [h13]
      have f4 : ((cfgA T).win (4 : Fin 5)).flush t = true := by rw [flush4_eq]; simp [h13]
      rewrite [i4]
      simp only [before_0, before_1, before_2, before_3, before_4, after_0, after_1, after_2, after_3, after_4, f4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      rewrite [outs_E T m ρ c t hv h13]
      unfold Phi; simp only [prevT_castSucc, prevT_succ, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((runE T m ρ c t hv h13 a0 a1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; exact absurd hn (not_held_next T hv)
        isplitl [HS1]
        · iexists _; isplitr; swap
          · iexact HS1
          · ipureintro; intro hn; exact absurd hn (not_held_next T hv)
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (cover0_E_4 c _ _ _ _ _ _ _ _ _ _ _ _ _ _ _ _ _ _ _ _ _)).trans (outE_const T m ρ c t hv h13 _ _ _ _)
    · have i4 : (cfgA T).idle (4 : Fin 5) ((cfgA T).grid.coords t) = true := by rw [idle4]; simp [h13]
      have f4 : ((cfgA T).win (4 : Fin 5)).flush t = false := by rw [flush4_eq]; simp [h13]
      rewrite [i4]
      simp only [before_0, before_1, before_2, before_3, before_4, after_0, after_1, after_2, after_3, after_4, f4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi; simp only [prevT_castSucc, prevT_succ, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((runD T m ρ c t hv h13 a0 a1).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; exact absurd hn (not_held_next T hv)
        isplitl [HS1]
        · iexists _; isplitr; swap
          · iexact HS1
          · ipureintro; intro hn; exact absurd hn (not_held_next T hv)
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4

theorem body_obligation (c : Dev nD) : BodyObligation (dats T m ρ 0 c) (defs₀ (F := Ideal)) Variants.none () Set.univ := fun t => by
  rw [bigSep_W0]
  exact sound_body T m ρ c t

/-! ## The launch -/

/-- The memory holds the tables `T` on every core. -/
def Pinned : Prop :=
  (∀ c : Dev nD, m ((c : Thread nD τ).loc main_arg1) = T.te) ∧ (∀ c : Dev nD, m ((c : Thread nD τ).loc main_arg2) = T.tv)

def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp MM)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h.1
  isplitl [HS1]
  · iexists a1; isplitr; swap
    · iexact HS1
    · ipureintro; intro h; exact absurd rfl h.1
  isplitl [HT0]
  · iexact HT0
  iexact HT1

theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- At the end: every array at what the pipeline computes, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory that holds the tables `T` every run ends, with the computed arrays and every counter at zero. -/
theorem run_quiet (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- From a memory that holds tables in range: the run ends, the result's array is what the pipeline computes, the
    arguments are unchanged and every counter is at zero. -/
theorem run (hp : Pinned T m) :
    θ_run (defs (F := Ideal)) (onTc (τ := τ) (main (F := Ideal))) ⟨m, fun _ => 0, ρ⟩ (fun r => (∀ c : Dev nD,
      r.2.mem ((c.tc : Thread nD τ).loc main_v0) = (dats T m ρ 0 c).arrAt (4 : Fin 5) (cfgA T).N
      ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats T m ρ 0 c).arrAt_in (0 : Fin 5) rfl _), ((h.1 c).2 0).trans (hp.1 c).symm, ((h.1 c).2 1).trans (hp.2 c).symm, ((h.1 c).1 (1 : Fin 5)).trans ((dats T m ρ 0 c).arrAt_in (1 : Fin 5) rfl _), ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩) (run_quiet T m ρ hp)

end Cert.KernelIdeal.Tables

end
-- ==== Proof.Paths.lean ====
/- What each way through the experts' body leaves, read at an index. -/
module

public import proofs.«01_k».proof.Proof.Tables
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Tables

open Cert.KernelIdeal Cert.KernelIdeal.Gen Idealize.ShloMosaic Idealize.ShloMosaic.TcCoe Idealize.SL.Sem
open scoped BigOperators

/-- One row's gated unit, from its products with a gate column and an up column. -/
def unit (g u : EReal) : EReal := g * Ideal.div 1 (1 + Ideal.exp (-g)) * u

theorem zero_at (j : S512x2048.Idx) : k0_pay1 (F := Ideal) j = 0 := by pointwise [k0_pay1]

theorem pay2_at (x : Vec Ideal S512x2048 .f32) (j : S512x2048.Idx) : k0_pay2 (F := Ideal) x j = x j := by
  pointwise [k0_pay2]

/-- What one chunk of the feed-forward width adds to an output row. -/
def term (x : FVec Ideal S512x2048 .bf16) (g u : FVec Ideal S1x2048x512 .bf16) (d : FVec Ideal S1x512x2048 .bf16) (y : Fin 512) (z : Fin 2048) : EReal :=
  ∑ k : Fin 512, unit (∑ l : Fin 2048, x (ix2 y l) * g (ix3 0 l k)) (∑ l : Fin 2048, x (ix2 y l) * u (ix3 0 l k)) * d (ix3 0 k z)

theorem pay3_at (x : Vec Ideal S512x2048 .bf16) (g u : Vec Ideal S1x2048x512 .bf16) (d : Vec Ideal S1x512x2048 .bf16) (y : Fin 512) (z : Fin 2048) :
    k0_pay3 (F := Ideal) x g u d (ix2 y z) = term x g u d y z := by
  unfold term unit
  pointwise [k0_pay3]
  simp only [zero_sub]

theorem pay4_at (x : Vec Ideal S512x2048 .bf16) (g u : Vec Ideal S1x2048x512 .bf16) (d : Vec Ideal S1x512x2048 .bf16) (y : Fin 512) (z : Fin 2048) :
    k0_pay4 (F := Ideal) x g u d (ix2 y z) = term x g u d y z := by
  rw [← pay3_at]
  pointwise [k0_pay4]

theorem pay5_at (x : Vec Ideal S512x2048 .bf16) (g u : Vec Ideal S1x2048x512 .bf16) (d : Vec Ideal S1x512x2048 .bf16) (a : Vec Ideal S512x2048 .f32) (y : Fin 512) (z : Fin 2048) :
    k0_pay5 (F := Ideal) x g u d a (ix2 y z) = a (ix2 y z) + term x g u d y z := by
  rw [← pay3_at]
  pointwise [k0_pay5]

variable (T : Tab) (m : (ℓ : Loc nD τ sig) → Buf (Elt Ideal) ℓ) (ρ : Dev nD → PrngReg)

theorem outE_at (c : Dev nD) (t : Fin (cfgA T).N) (hv : ¬Used T t) (h13 : t.val % 14 = 13)
    (xa : Buf (Elt Ideal) ((c : Thread nD τ).loc cc0_scratch0)) (xb : Buf (Elt Ideal) ((c : Thread nD τ).loc cc0_scratch1)) (j : S512x2048.Idx) :
    (outE T m ρ c t hv h13 xa xb j : EReal) = 0 := by
  rw [← zero_at j]
  unfold outE out0_E_4
  frame_open
  frame_out

/-- A whole buffer after covering stores holds what they stored. -/
theorem whole_canon (b : Ref sig .tc) (L : List (View.Piece (Elt Ideal) b.ty.shape b.ty.elt)) :
    (View.whole b).writes (Elt Ideal) (View.whole b).junk L = View.canon L :=
  (View.read_whole b _).symm.trans (View.read_writes_junk_eq_canon ..)

/-- One store of a whole block leaves that block. -/
theorem canon_one {e : EltTy} (inb) (w : S512x2048.Idx → Elt Ideal e) :
    View.canon (Val := Elt Ideal) (s := S512x2048) (e := e) [⟨Rect.unit ![0, 0] ![512, 2048] inb, w⟩] = w := by
  simp (disch := decide) only [View.canon_cons_unit_lit']

theorem runA_x (c : Dev nD) (t : Fin (cfgA T).N) (hv : Used T t) (h0 : t.val % 14 = 0) (j : S512x2048.Idx) :
    ((runA T m ρ c t hv h0).1 j : EReal) = iblk T m ρ c (0 : Fin 5) t j := by
  obtain ⟨w, hw⟩ : ∃ w, w = (runA T m ρ c t hv h0).1 := ⟨_, rfl⟩
  rw [← hw]
  unfold runA at hw
  frame_open at hw
  rw [hw]
  refine (congrFun (whole_canon cc0_scratch0 _) _).trans ?_
  simp (disch := decide) only [View.read_rep, View.readAt_eq_ld, View.ld_unit_lit']
  exact (congrFun (canon_one (e := .bf16) _ _) _).trans (pay2_at _ j)

theorem runA_sum (c : Dev nD) (t : Fin (cfgA T).N) (hv : Used T t) (h0 : t.val % 14 = 0) (y : Fin 512) (z : Fin 2048) :
    ((runA T m ρ c t hv h0).2.1 (ix2 y z) : EReal) = term (iblk T m ρ c (0 : Fin 5) t) (iblk T m ρ c (1 : Fin 5) t) (iblk T m ρ c (2 : Fin 5) t) (iblk T m ρ c (3 : Fin 5) t) y z := by
  rw [← pay4_at]
  unfold runA
  frame_open
  frame_out
  refine (congrFun (whole_canon cc0_scratch1 _) _).trans ?_
  simp (disch := decide) only [View.read_rep, View.read_whole]
  refine (congrFun (canon_one (e := .f32) _ _) _).trans ?_
  rw [pay4_at, pay4_at]
  unfold term
  simp only [pay2_at]

theorem runB_sum (c : Dev nD) (t : Fin (cfgA T).N) (hv : Used T t) (h0 : ¬t.val % 14 = 0) (h13 : ¬t.val % 14 = 13)
    (xa : Buf (Elt Ideal) ((c : Thread nD τ).loc cc0_scratch0)) (xb : FVec Ideal S512x2048 .f32) (y : Fin 512) (z : Fin 2048) :
    ((runB T m ρ c t hv h0 h13 xa xb).2.1 (ix2 y z) : EReal) = xb (ix2 y z) + term xa (iblk T m ρ c (1 : Fin 5) t) (iblk T m ρ c (2 : Fin 5) t) (iblk T m ρ c (3 : Fin 5) t) y z := by
  rw [← pay5_at]
  unfold runB
  frame_open
  frame_out
  refine (congrFun (whole_canon cc0_scratch1 _) _).trans ?_
  simp (disch := decide) only [View.read_rep, View.read_whole]
  exact congrFun (canon_one (e := .f32) _ _) _

theorem runB_x (c : Dev nD) (t : Fin (cfgA T).N) (hv : Used T t) (h0 : ¬t.val % 14 = 0) (h13 : ¬t.val % 14 = 13)
    (xa : Buf (Elt Ideal) ((c : Thread nD τ).loc cc0_scratch0)) (xb : Buf (Elt Ideal) ((c : Thread nD τ).loc cc0_scratch1)) :
    (runB T m ρ c t hv h0 h13 xa xb).1 = xa := by
  unfold runB
  frame_open
  rfl

theorem outC_at (c : Dev nD) (t : Fin (cfgA T).N) (hv : Used T t) (h13 : t.val % 14 = 13)
    (xa : Buf (Elt Ideal) ((c : Thread nD τ).loc cc0_scratch0)) (xb : FVec Ideal S512x2048 .f32) (y : Fin 512) (z : Fin 2048) :
    (outC T m ρ c t hv h13 xa xb (ix2 y z) : EReal) = xb (ix2 y z) + term xa (iblk T m ρ c (1 : Fin 5) t) (iblk T m ρ c (2 : Fin 5) t) (iblk T m ρ c (3 : Fin 5) t) y z := by
  rw [← pay5_at]
  unfold outC out0_C_4
  frame_open
  frame_out
  simp only [View.read_rep, View.read_whole]

end Cert.KernelIdeal.Tables

end

end
-- ==== Proof.Chunks.lean ====
/- The blocks of the experts' launch at coordinates. -/
module

public import proofs.«01_k».proof.Proof.Paths

@[expose] public section

set_option maxRecDepth 16384

noncomputable section

namespace Cert.KernelIdeal.Tables

open Cert.KernelIdeal Cert.KernelIdeal.Gen Idealize.ShloMosaic Idealize.ShloMosaic.TcCoe Idealize.SL.Sem
open scoped BigOperators

variable (T : Tab) (m : (ℓ : Loc nD τ sig) → Buf (Elt Ideal) ℓ) (ρ : Dev nD → PrngReg)

theorem idx0 (t : Fin (cfgA T).N) : ((cfgA T).win (0 : Fin 5)).index t = ![t.val / 14, 0] := by
  rw [← crd0 T t]
  have h : (crd T t 0).val < 72 := (crd T t 0).isLt
  funext a
  fin_cases a
  · show (BitVec.ofNat 32 (crd T t 0).val).toNat = (crd T t 0).val
    rw [BitVec.toNat_ofNat]; exact Nat.mod_eq_of_lt (by omega)
  · rfl

theorem idx4 (t : Fin (cfgA T).N) : ((cfgA T).win (4 : Fin 5)).index t = ![t.val / 14, 0] := by
  rw [← crd0 T t]
  have h : (crd T t 0).val < 72 := (crd T t 0).isLt
  funext a
  fin_cases a
  · show (BitVec.ofNat 32 (crd T t 0).val).toNat = (crd T t 0).val
    rw [BitVec.toNat_ofNat]; exact Nat.mod_eq_of_lt (by omega)
  · rfl

theorem idx1 (t : Fin (cfgA T).N) : ((cfgA T).win (1 : Fin 5)).index t = ![(T.te (tile (crd T t))).toNat, 0, chunk T (crd T t)] := tr1 T _
theorem idx2 (t : Fin (cfgA T).N) : ((cfgA T).win (2 : Fin 5)).index t = ![(T.te (tile (crd T t))).toNat, 0, chunk T (crd T t)] := tr2 T _
theorem idx3 (t : Fin (cfgA T).N) : ((cfgA T).win (3 : Fin 5)).index t = ![(T.te (tile (crd T t))).toNat, chunk T (crd T t), 0] := tr3 T _

theorem chunk_used (t : Fin (cfgA T).N) (hv : Used T t) : chunk T (crd T t) = t.val % 14 := by
  unfold chunk
  rw [show T.tv (tile (crd T t)) = 1#32 from hv]
  show (BitVec.ofNat 32 (crd T t 1).val).toNat = _
  have h : (crd T t 1).val < 14 := (crd T t 1).isLt
  rw [BitVec.toNat_ofNat, ← crd1 T t]; exact Nat.mod_eq_of_lt (by omega)

theorem x_at (c : Dev nD) (t : Fin (cfgA T).N) (y : Fin 512) (l : Fin 2048) (r : Fin 36864) (hr : r.val = t.val / 14 * 512 + y.val) :
    ((iblk T m ρ c (0 : Fin 5) t : FVec Ideal S512x2048 .f32) (ix2 y l) : EReal) = m ((c : Thread nD τ).loc main_arg0) (ix2 r l) := by
  blk_ext [iblk]
  · exact (congrArg (fun q => q * 512 + y.val) (congrFun (idx0 T t) 0)).trans hr.symm
  · exact (congrArg (fun q => q * 2048 + l.val) (congrFun (idx0 T t) 1)).trans (by show 0 * 2048 + l.val = _; omega)

theorem g_at (c : Dev nD) (t : Fin (cfgA T).N) (hv : Used T t) (l : Fin 2048) (k : Fin 512) (e : Fin 8) (he : e.val = (T.te (tile (crd T t))).toNat)
    (f : Fin 7168) (hf : f.val = t.val % 14 * 512 + k.val) :
    ((iblk T m ρ c (1 : Fin 5) t : FVec Ideal S1x2048x512 .bf16) (ix3 0 l k) : EReal) = m ((c : Thread nD τ).loc main_arg3) (ix3 e l f) := by
  have hc := chunk_used T t hv
  blk_ext [iblk]
  · exact (congrFun (idx1 T t) 0).trans he.symm
  · exact (congrArg (fun q => q * 2048 + l.val) (congrFun (idx1 T t) 1)).trans (by show 0 * 2048 + l.val = _; omega)
  · exact (congrArg (fun q => q * 512 + k.val) ((congrFun (idx1 T t) 2).trans hc)).trans hf.symm

theorem u_at (c : Dev nD) (t : Fin (cfgA T).N) (hv : Used T t) (l : Fin 2048) (k : Fin 512) (e : Fin 8) (he : e.val = (T.te (tile (crd T t))).toNat)
    (f : Fin 7168) (hf : f.val = t.val % 14 * 512 + k.val) :
    ((iblk T m ρ c (2 : Fin 5) t : FVec Ideal S1x2048x512 .bf16) (ix3 0 l k) : EReal) = m ((c : Thread nD τ).loc main_arg4) (ix3 e l f) := by
  have hc := chunk_used T t hv
  blk_ext [iblk]
  · exact (congrFun (idx2 T t) 0).trans he.symm
  · exact (congrArg (fun q => q * 2048 + l.val) (congrFun (idx2 T t) 1)).trans (by show 0 * 2048 + l.val = _; omega)
  · exact (congrArg (fun q => q * 512 + k.val) ((congrFun (idx2 T t) 2).trans hc)).trans hf.symm

theorem d_at (c : Dev nD) (t : Fin (cfgA T).N) (hv : Used T t) (k : Fin 512) (z : Fin 2048) (e : Fin 8) (he : e.val = (T.te (tile (crd T t))).toNat)
    (f : Fin 7168) (hf : f.val = t.val % 14 * 512 + k.val) :
    ((iblk T m ρ c (3 : Fin 5) t : FVec Ideal S1x512x2048 .bf16) (ix3 0 k z) : EReal) = m ((c : Thread nD τ).loc main_arg5) (ix3 e f z) := by
  have hc := chunk_used T t hv
  blk_ext [iblk]
  · exact (congrFun (idx3 T t) 0).trans he.symm
  · exact (congrArg (fun q => q * 512 + k.val) ((congrFun (idx3 T t) 1).trans hc)).trans hf.symm
  · exact (congrArg (fun q => q * 2048 + z.val) (congrFun (idx3 T t) 2)).trans (by show 0 * 2048 + z.val = _; omega)

end Cert.KernelIdeal.Tables

end

end
-- ==== Proof.Tally.lean ====
/- The experts' running sum over the chunks of the feed-forward width, and the array it leaves. -/
module

public import proofs.«01_k».proof.Proof.Chunks
public import Idealize.ShloMosaic.Lib.Pipeline.Covers

@[expose] public section

set_option maxRecDepth 16384

noncomputable section

namespace Cert.KernelIdeal.Tables

open Cert.KernelIdeal Cert.KernelIdeal.Gen Idealize.ShloMosaic Idealize.ShloMosaic.TcCoe Idealize.SL.Sem
open scoped BigOperators

/-- One place of the feed-forward width of an expert: its share of an output value. -/
def lane (X : FVec Ideal S36864x2048 .f32) (G U : FVec Ideal S8x2048x7168 .bf16) (D : FVec Ideal S8x7168x2048 .bf16)
    (e : Fin 8) (r : Fin 36864) (z : Fin 2048) (f : Fin 7168) : EReal :=
  unit (∑ l : Fin 2048, X (ix2 r l) * G (ix3 e l f)) (∑ l : Fin 2048, X (ix2 r l) * U (ix3 e l f)) * D (ix3 e f z)

/-- The same at a number of the width, nothing outside of it. -/
def laneN (X : FVec Ideal S36864x2048 .f32) (G U : FVec Ideal S8x2048x7168 .bf16) (D : FVec Ideal S8x7168x2048 .bf16)
    (e : Fin 8) (r : Fin 36864) (z : Fin 2048) (i : ℕ) : EReal :=
  if h : i < 7168 then lane X G U D e r z ⟨i, h⟩ else 0

/-- The whole width of one expert at one output value. -/
def expertAt (X : FVec Ideal S36864x2048 .f32) (G U : FVec Ideal S8x2048x7168 .bf16) (D : FVec Ideal S8x7168x2048 .bf16)
    (e : Fin 8) (r : Fin 36864) (z : Fin 2048) : EReal := ∑ f : Fin 7168, lane X G U D e r z f

theorem chunks_sum (X : FVec Ideal S36864x2048 .f32) (G U : FVec Ideal S8x2048x7168 .bf16) (D : FVec Ideal S8x7168x2048 .bf16)
    (e : Fin 8) (r : Fin 36864) (z : Fin 2048) :
    ∑ s ∈ Finset.range 14, ∑ k : Fin 512, laneN X G U D e r z (s * 512 + k.val) = expertAt X G U D e r z := by
  unfold expertAt
  rw [Finset.sum_range]
  refine Fin.sum_mul_add_congr (S := 14) (n := 512) fun s k hl => ?_
  unfold laneN
  rw [dif_pos hl]

variable (T : Tab) (m : (ℓ : Loc nD τ sig) → Buf (Elt Ideal) ℓ) (ρ : Dev nD → PrngReg)

theorem tile_eq (t : Fin (cfgA T).N) (q : ℕ) (hq : q < 72) (h : t.val / 14 = q) : tile (crd T t) = ix q hq := by
  funext a; fin_cases a
  refine Fin.ext ?_
  show (crd T t 0).val = q
  rw [crd0, h]

/-- The expert of a tile. -/
def expertOf (q : Fin 72) : Fin 8 := ⟨(T.te (ix q.val q.isLt)).toNat, T.hte _⟩

theorem term_at (c : Dev nD) (t : Fin (cfgA T).N) (hv : Used T t) (q : Fin 72) (hq : t.val / 14 = q.val) (x : FVec Ideal S512x2048 .bf16)
    (y : Fin 512) (r : Fin 36864) (hr : r.val = q.val * 512 + y.val)
    (hx : ∀ l : Fin 2048, (x (ix2 y l) : EReal) = m ((c : Thread nD τ).loc main_arg0) (ix2 r l)) (z : Fin 2048) :
    term x (iblk T m ρ c (1 : Fin 5) t) (iblk T m ρ c (2 : Fin 5) t) (iblk T m ρ c (3 : Fin 5) t) y z
      = ∑ k : Fin 512, laneN (m ((c : Thread nD τ).loc main_arg0)) (m ((c : Thread nD τ).loc main_arg3)) (m ((c : Thread nD τ).loc main_arg4))
          (m ((c : Thread nD τ).loc main_arg5)) (expertOf T q) r z (t.val % 14 * 512 + k.val) := by
  unfold term
  refine Finset.sum_congr rfl fun k _ => ?_
  have hk : t.val % 14 * 512 + k.val < 7168 := by have := k.isLt; omega
  have he : (expertOf T q).val = (T.te (tile (crd T t))).toNat := by rw [tile_eq T t q.val q.isLt hq]; rfl
  unfold laneN
  rw [dif_pos hk]
  unfold lane
  refine congrArg₂ (fun a b : EReal => a * b) (congrArg₂ unit ?_ ?_) (d_at T m ρ c t hv k z _ he ⟨_, hk⟩ rfl)
  · exact Finset.sum_congr rfl fun l _ => congrArg₂ (fun a b : EReal => a * b) (hx l) (g_at T m ρ c t hv l k _ he ⟨_, hk⟩ rfl)
  · exact Finset.sum_congr rfl fun l _ => congrArg₂ (fun a b : EReal => a * b) (hx l) (u_at T m ρ c t hv l k _ he ⟨_, hk⟩ rfl)

/-- The scratch rows hold the tile's rows. -/
def HoldsRows (c : Dev nD) (q : Fin 72) (x : FVec Ideal S512x2048 .bf16) : Prop :=
  ∀ (y : Fin 512) (r : Fin 36864), r.val = q.val * 512 + y.val → ∀ l : Fin 2048, (x (ix2 y l) : EReal) = m ((c : Thread nD τ).loc main_arg0) (ix2 r l)

/-- The scratch sum holds the tile's first chunks. -/
def HoldsSum (c : Dev nD) (q : Fin 72) (f : ℕ) (a : FVec Ideal S512x2048 .f32) : Prop :=
  ∀ (y : Fin 512) (r : Fin 36864), r.val = q.val * 512 + y.val → ∀ z : Fin 2048, (a (ix2 y z) : EReal)
    = ∑ s ∈ Finset.range f, ∑ k : Fin 512, laneN (m ((c : Thread nD τ).loc main_arg0)) (m ((c : Thread nD τ).loc main_arg3)) (m ((c : Thread nD τ).loc main_arg4))
          (m ((c : Thread nD τ).loc main_arg5)) (expertOf T q) r z (s * 512 + k.val)

theorem used_of (t : Fin (cfgA T).N) (q : Fin 72) (hq : t.val / 14 = q.val) (hv : T.tv (ix q.val q.isLt) = 1#32) : Used T t := by
  show T.tv (tile _) = _
  rw [tile_eq T _ q.val q.isLt hq, hv]

theorem first_rows (c : Dev nD) (q : Fin 72) (t : Fin (cfgA T).N) (hq : t.val / 14 = q.val) (hu : Used T t) (h0 : t.val % 14 = 0) :
    HoldsRows m c q (step T m ρ c t (prev T m ρ c t)).1 := fun y r hr l => by
  rw [step_A T m ρ c t _ hu h0]
  dsimp only
  exact (runA_x T m ρ c t hu h0 (ix2 y l)).trans (x_at T m ρ c t y l r (by rw [hr, hq]))

theorem first_sum (c : Dev nD) (q : Fin 72) (t : Fin (cfgA T).N) (hq : t.val / 14 = q.val) (hu : Used T t) (h0 : t.val % 14 = 0) :
    HoldsSum T m c q 1 (step T m ρ c t (prev T m ρ c t)).2 := fun y r hr z => by
  rw [step_A T m ρ c t _ hu h0]
  dsimp only
  refine (runA_sum T m ρ c t hu h0 y z).trans ((term_at T m ρ c t hu q hq _ y r hr (fun l => x_at T m ρ c t y l r (by rw [hr, hq])) z).trans ?_)
  rw [Finset.sum_range_one, h0]

theorem next_rows (c : Dev nD) (q : Fin 72) (t : Fin (cfgA T).N) (hu : Used T t) (h0 : ¬t.val % 14 = 0) (h13 : ¬t.val % 14 = 13) (p)
    (hx : HoldsRows m c q p.1) : HoldsRows m c q (step T m ρ c t p).1 := fun y r hr l => by
  rw [step_B T m ρ c t _ hu h0 h13]
  dsimp only
  exact (congrFun (runB_x T m ρ c t hu h0 h13 p.1 p.2) (ix2 y l)).trans (hx y r hr l)

theorem next_sum (c : Dev nD) (q : Fin 72) (f : ℕ) (t : Fin (cfgA T).N) (hq : t.val / 14 = q.val) (hf : t.val % 14 = f) (hu : Used T t) (h0 : ¬t.val % 14 = 0)
    (h13 : ¬t.val % 14 = 13) (p) (hx : HoldsRows m c q p.1) (hs : HoldsSum T m c q f p.2) : HoldsSum T m c q (f + 1) (step T m ρ c t p).2 := fun y r hr z => by
  rw [step_B T m ρ c t _ hu h0 h13]
  dsimp only
  refine (runB_sum T m ρ c t hu h0 h13 p.1 p.2 y z).trans ?_
  rw [Finset.sum_range_succ]
  refine congrArg₂ (fun a b : EReal => a + b) (hs y r hr z) ((term_at T m ρ c t hu q hq p.1 y r hr (hx y r hr) z).trans ?_)
  rw [hf]

theorem prev_eq (c : Dev nD) (t s : Fin (cfgA T).N) (h : t.val = s.val + 1) : prev T m ρ c t = step T m ρ c s (prev T m ρ c s) := by
  rw [← traj_eq]
  unfold prev
  rw [dif_neg (by omega)]
  congr 1
  omega

/-- What the scratch buffers hold inside a used tile: its rows and the sum of its chunks so far. -/
theorem holds_at (c : Dev nD) (q : Fin 72) (hv : T.tv (ix q.val q.isLt) = 1#32) (f : ℕ) (hf : f < 13) :
    ∀ t : Fin (cfgA T).N, t.val = q.val * 14 + f →
      HoldsRows m c q (step T m ρ c t (prev T m ρ c t)).1 ∧ HoldsSum T m c q (f + 1) (step T m ρ c t (prev T m ρ c t)).2 := by
  induction f with
  | zero =>
    intro t ht
    have hq : t.val / 14 = q.val := by omega
    have hu := used_of T t q hq hv
    exact ⟨first_rows T m ρ c q t hq hu (by omega), first_sum T m ρ c q t hq hu (by omega)⟩
  | succ f ih =>
    intro t ht
    have hq : t.val / 14 = q.val := by omega
    have hu := used_of T t q hq hv
    have hN : t.val - 1 < (cfgA T).N := by have := t.isLt; omega
    obtain ⟨hx, hs⟩ := ih (by omega) ⟨t.val - 1, hN⟩ (by show t.val - 1 = _; omega)
    rw [← prev_eq T m ρ c t ⟨t.val - 1, hN⟩ (by show t.val = t.val - 1 + 1; omega)] at hx hs
    exact ⟨next_rows T m ρ c q t hu (by omega) (by omega) _ hx, next_sum T m ρ c q (f + 1) t hq (by omega) hu (by omega) (by omega) _ hx hs⟩

theorem out_used (c : Dev nD) (t : Fin (cfgA T).N) (h13 : t.val % 14 = 13) (q : Fin 72) (hq : t.val / 14 = q.val) (hv : T.tv (ix q.val q.isLt) = 1#32)
    (y : Fin 512) (r : Fin 36864) (hr : r.val = q.val * 512 + y.val) (z : Fin 2048) :
    (outs T m ρ c t (ix2 y z) : EReal) = expertAt (m ((c : Thread nD τ).loc main_arg0)) (m ((c : Thread nD τ).loc main_arg3)) (m ((c : Thread nD τ).loc main_arg4))
          (m ((c : Thread nD τ).loc main_arg5)) (expertOf T q) r z := by
  have hu := used_of T t q hq hv
  have hN : t.val - 1 < (cfgA T).N := by have := t.isLt; omega
  rw [outs_C T m ρ c t hu h13]
  obtain ⟨hx, hs⟩ := holds_at T m ρ c q hv 12 (by omega) ⟨t.val - 1, hN⟩ (by show t.val - 1 = _; omega)
  rw [← prev_eq T m ρ c t ⟨t.val - 1, hN⟩ (by show t.val = t.val - 1 + 1; omega)] at hx hs
  refine (outC_at T m ρ c t hu h13 _ _ y z).trans ?_
  rw [← chunks_sum, Finset.sum_range_succ]
  refine congrArg₂ (fun a b : EReal => a + b) (hs y r hr z) ((term_at T m ρ c t hu q hq _ y r hr (hx y r hr) z).trans ?_)
  rw [h13]

theorem out_free (c : Dev nD) (t : Fin (cfgA T).N) (h13 : t.val % 14 = 13) (q : Fin 72) (hq : t.val / 14 = q.val) (hv : ¬T.tv (ix q.val q.isLt) = 1#32)
    (j : S512x2048.Idx) : (outs T m ρ c t j : EReal) = 0 := by
  have hu : ¬Used T t := by
    show ¬T.tv (tile _) = _
    rw [tile_eq T _ q.val q.isLt hq]; exact hv
  rw [outs_E T m ρ c t hu h13]
  exact outE_at T m ρ c t hu h13 _ _ j

/-- A value of the array the launch leaves: a used tile's row through its expert, nothing in the others. -/
def wantedAt (c : Dev nD) (q : Fin 72) (r : Fin 36864) (z : Fin 2048) : EReal :=
  if T.tv (ix q.val q.isLt) = 1#32 then
    expertAt (m ((c : Thread nD τ).loc main_arg0)) (m ((c : Thread nD τ).loc main_arg3)) (m ((c : Thread nD τ).loc main_arg4))
      (m ((c : Thread nD τ).loc main_arg5)) (expertOf T q) r z
  else 0

/-- The tile of a row. -/
def tileOf (r : Fin 36864) : Fin 72 := ⟨r.val / 512, by have := r.isLt; omega⟩

/-- The array the launch leaves. -/
def wanted (c : Dev nD) : FVec Ideal S36864x2048 .f32 := fun j => wantedAt T m c (tileOf (j 0)) (j 0) (j 1)

theorem out_at (c : Dev nD) (t : Fin (cfgA T).N) (h13 : t.val % 14 = 13) (y : Fin 512) (z : Fin 2048) (r : Fin 36864) (hr : r.val = t.val / 14 * 512 + y.val) :
    (outs T m ρ c t (ix2 y z) : EReal) = wanted T m c (ix2 r z) := by
  have hN : t.val < 1008 := t.isLt
  have hq : t.val / 14 = (tileOf r).val := by show t.val / 14 = r.val / 512; have := y.isLt; omega
  show _ = wantedAt T m c (tileOf r) r z
  rw [hq] at hr
  unfold wantedAt
  split
  · exact out_used T m ρ c t h13 _ hq (by assumption) y r hr z
  · exact out_free T m ρ c t h13 _ hq (by assumption) _

theorem nblk_val : ((cfgA T).win (4 : Fin 5)).nblk (0 : Fin 2) = 72 ∧ ((cfgA T).win (4 : Fin 5)).nblk (1 : Fin 2) = 1 := by
  unfold Pipeline.Window.nblk
  exact ⟨(by norm_num : (36864 + 512 - 1) / 512 = 72), (by norm_num : (2048 + 2048 - 1) / 2048 = 1)⟩

theorem covers4 : ((cfgA T).win (4 : Fin 5)).Covers :=
  ((cfgA T).win (4 : Fin 5)).covers_of_index_surj rfl (by show ∀ a : Fin 2, 0 < S512x2048.size a; decide) fun β => by
    have hb0 : (β (0 : Fin 2)).val < 72 := lt_of_lt_of_eq (β (0 : Fin 2)).isLt (nblk_val T).1
    have hb1 : (β (1 : Fin 2)).val < 1 := lt_of_lt_of_eq (β (1 : Fin 2)).isLt (nblk_val T).2
    have ht : (β (0 : Fin 2)).val * 14 < (cfgA T).N := by show _ < 1008; omega
    refine ⟨⟨(β (0 : Fin 2)).val * 14, ht⟩, ?_⟩
    have e := idx4 T ⟨(β (0 : Fin 2)).val * 14, ht⟩
    show ∀ a : Fin 2, _
    intro a
    fin_cases a
    · refine (congrFun e 0).trans ?_
      show (β (0 : Fin 2)).val * 14 / 14 = (β (0 : Fin 2)).val
      omega
    · refine (congrFun e 1).trans ?_
      show 0 = (β (1 : Fin 2)).val
      omega

/-- The array after the launch. -/
theorem final4 (c : Dev nD) : (dats T m ρ 0 c).arrAt (4 : Fin 5) (cfgA T).N = wanted T m c := by
  refine (dats T m ρ 0 c).arrAt_eq_of_covers (4 : Fin 5) (wanted T m c) (covers4 T) fun t hf y => ?_
  have ht : t.val % 14 = 13 := (flush4 T t).1 hf
  have hy0 : (y 0).val < 512 := (y 0).isLt
  have hy1 : (y 1).val < 2048 := (y 1).isLt
  have htN : t.val < 1008 := t.isLt
  blk_simp
  rw [after_4]
  have hi0 := congrFun (idx4 T t) 0
  have hi1 := congrFun (idx4 T t) 1
  refine Eq.trans (congrArg (fun z : S512x2048.Idx => (outs T m ρ c t z : EReal)) ?_) ((out_at T m ρ c t ht
    ⟨(y 0).val, hy0⟩ ⟨(y 1).val, hy1⟩ ⟨t.val / 14 * 512 + (y 0).val, by omega⟩ rfl).trans ?_)
  · funext a
    fin_cases a <;> rfl
  · generalize wanted T m c = W
    blk_ext []
    · exact congrArg (fun q => q * 512 + (y 0).val) hi0.symm
    · exact (by show (y 1).val = 0 * 2048 + (y 1).val; omega : (y 1).val = ![t.val / 14, 0] 1 * 2048 + (y 1).val).trans (congrArg (fun q => q * 2048 + (y 1).val) hi1.symm)

end Cert.KernelIdeal.Tables

end

end
-- ==== Proof.Mix.lean ====
/- The reference of the experts read at an index. -/
module

public import proofs.«01_k».proof.Proof.Gen.ReferenceIdeal.Run
public import proofs.«01_k».proof.Proof.Tally
public import Idealize.ShloMosaic.Lib.Pointwise

@[expose] public section

set_option maxRecDepth 16384

noncomputable section

namespace Cert.ReferenceIdeal.Mix

open Cert.ReferenceIdeal Cert.ReferenceIdeal.Gen Cert.ReferenceIdeal.Value Idealize.ShloMosaic Idealize.ShloMosaic.TcCoe Idealize.SL.Sem
open scoped BigOperators

/-- The products of the rows with one expert's gate matrix. -/
def gateDot (o : ℕ) (h : S8x2048x7168.Slices ![o, 0, 0] S1x2048x7168) (X : FVec Ideal S36864x2048 .f32) (G : FVec Ideal S8x2048x7168 .f32) : FVec Ideal S36864x7168 .f32 :=
  Host.dotGeneral dot_S36864x2048_S2048x7168_S36864x7168_1_0_0_1_n_n none X (shapeCast _ (extractStridedSlice S1x2048x7168 ![o, 0, 0] G h) shapeCasts_S1x2048x7168_S2048x7168)

/-- One expert's share of the sum, gated. -/
def share (o : ℕ) (hK : S36864x8.Slices ![0, o] S36864x1) (hU : S8x2048x7168.Slices ![o, 0, 0] S1x2048x7168) (hD : S8x7168x2048.Slices ![o, 0, 0] S1x7168x2048)
    (K : FVec Ideal S36864x8 .f32) (X : FVec Ideal S36864x2048 .f32) (A : FVec Ideal S36864x7168 .f32) (U : FVec Ideal S8x2048x7168 .f32) (D : FVec Ideal S8x7168x2048 .f32) : FVec Ideal S36864x2048 .f32 :=
  mulf (broadcastInDim S36864x2048 ![0, 1] bcast_S36864x1_S36864x2048_0_1 (extractStridedSlice S36864x1 ![0, o] K hK)) (Host.dotGeneral dot_S36864x7168_S7168x2048_S36864x2048_1_0_0_1_n_n none (mulf (mulf A (Host.divf (broadcastInDim S36864x7168 ![] bcast_S_S36864x7168 (constant S_ .f32 0x3F800000#32)) (addf (broadcastInDim S36864x7168 ![] bcast_S_S36864x7168 (constant S_ .f32 0x3F800000#32)) (Host.exp (Host.negf A))))) (Host.dotGeneral dot_S36864x2048_S2048x7168_S36864x7168_1_0_0_1_n_n none X (shapeCast _ (extractStridedSlice S1x2048x7168 ![o, 0, 0] U hU) shapeCasts_S1x2048x7168_S2048x7168))) (shapeCast _ (extractStridedSlice S1x7168x2048 ![o, 0, 0] D hD) shapeCasts_S1x7168x2048_S7168x2048))

/-- The gates from the two tables. -/
def gates (te tv : IVec S72 32) : FVec Ideal S36864x8 .f32 :=
  select (andi (cmpi .eq (broadcastInDim S36864x8 ![0, 1] bcast_S36864x1_S36864x8_0_1 (broadcastInDim S36864x1 ![0] bcast_S36864_S36864x1_0 (shapeCast _ (broadcastInDim S72x512 ![0, 1] bcast_S72x1_S72x512_0_1 (broadcastInDim S72x1 ![0] bcast_S72_S72x1_0 te)) shapeCasts_S72x512_S36864))) (broadcastInDim S36864x8 ![0, 1] bcast_S1x8_S36864x8_0_1 (broadcastInDim S1x8 ![1] bcast_S8_S1x8_1 (iotaInDim S8 32 0)))) (broadcastInDim S36864x8 ![0, 1] bcast_S36864x1_S36864x8_0_1 (cmpi .eq (broadcastInDim S36864x1 ![0] bcast_S36864_S36864x1_0 (shapeCast _ (broadcastInDim S72x512 ![0, 1] bcast_S72x1_S72x512_0_1 (broadcastInDim S72x1 ![0] bcast_S72_S72x1_0 tv)) shapeCasts_S72x512_S36864)) (broadcastInDim S36864x1 ![] bcast_S_S36864x1 (constantI S_ 32 1#32))))) (broadcastInDim S36864x8 ![] bcast_S_S36864x8 (constant S_ .f32 0x3F800000#32)) (broadcastInDim S36864x8 ![] bcast_S_S36864x8 (constant S_ .f32 0x00000000#32))

theorem gateDot_at (o : ℕ) (h) (X : FVec Ideal S36864x2048 .f32) (G : FVec Ideal S8x2048x7168 .f32) (e : Fin 8) (he : e.val = o) (r : Fin 36864) (f : Fin 7168) :
    (gateDot o h X G (ix2 r f) : EReal) = ∑ l : Fin 2048, X (ix2 r l) * G (ix3 e l f) := by
  subst he
  pointwise [gateDot]

theorem share_at (o : ℕ) (hK hU hD) (K : FVec Ideal S36864x8 .f32) (X : FVec Ideal S36864x2048 .f32) (G U : FVec Ideal S8x2048x7168 .f32) (D : FVec Ideal S8x7168x2048 .f32)
    (e : Fin 8) (he : e.val = o) (r : Fin 36864) (z : Fin 2048) :
    (share o hK hU hD K X (gateDot o hU X G) U D (ix2 r z) : EReal) = K (ix2 r e) * KernelIdeal.Tables.expertAt X G U D e r z := by
  have hg := gateDot_at o hU X G e he r
  generalize gateDot o hU X G = A at hg
  subst he
  unfold KernelIdeal.Tables.expertAt KernelIdeal.Tables.lane KernelIdeal.Tables.unit
  simp only [← hg]
  pointwise [share]

theorem gates_at (te tv : IVec S72 32) (r : Fin 36864) (e : Fin 8) :
    (gates te tv (ix2 r e) : EReal) = Scalar.select (IntOp.andi (IntOp.cmpi .eq (te (ix1 ⟨r.val / 512, by omega⟩)) (BitVec.ofNat 32 e.val)) (IntOp.cmpi .eq (tv (ix1 ⟨r.val / 512, by omega⟩)) 1#32)) (1 : EReal) 0 := by
  pointwise [gates]

/-- The sum over the eight experts. -/
def mixed (K : FVec Ideal S36864x8 .f32) (X : FVec Ideal S36864x2048 .f32) (G U : FVec Ideal S8x2048x7168 .f32) (D : FVec Ideal S8x7168x2048 .f32) : FVec Ideal S36864x2048 .f32 :=
  addf (addf (addf (addf (addf (addf (addf (addf (broadcastInDim S36864x2048 ![] bcast_S_S36864x2048 (constant S_ .f32 0x00000000#32))
    (share 0 slices_S36864x8_S36864x1_0_0 slices_S8x2048x7168_S1x2048x7168_0_0_0 slices_S8x7168x2048_S1x7168x2048_0_0_0 K X (gateDot 0 slices_S8x2048x7168_S1x2048x7168_0_0_0 X G) U D))
    (share 1 slices_S36864x8_S36864x1_0_1 slices_S8x2048x7168_S1x2048x7168_1_0_0 slices_S8x7168x2048_S1x7168x2048_1_0_0 K X (gateDot 1 slices_S8x2048x7168_S1x2048x7168_1_0_0 X G) U D))
    (share 2 slices_S36864x8_S36864x1_0_2 slices_S8x2048x7168_S1x2048x7168_2_0_0 slices_S8x7168x2048_S1x7168x2048_2_0_0 K X (gateDot 2 slices_S8x2048x7168_S1x2048x7168_2_0_0 X G) U D))
    (share 3 slices_S36864x8_S36864x1_0_3 slices_S8x2048x7168_S1x2048x7168_3_0_0 slices_S8x7168x2048_S1x7168x2048_3_0_0 K X (gateDot 3 slices_S8x2048x7168_S1x2048x7168_3_0_0 X G) U D))
    (share 4 slices_S36864x8_S36864x1_0_4 slices_S8x2048x7168_S1x2048x7168_4_0_0 slices_S8x7168x2048_S1x7168x2048_4_0_0 K X (gateDot 4 slices_S8x2048x7168_S1x2048x7168_4_0_0 X G) U D))
    (share 5 slices_S36864x8_S36864x1_0_5 slices_S8x2048x7168_S1x2048x7168_5_0_0 slices_S8x7168x2048_S1x7168x2048_5_0_0 K X (gateDot 5 slices_S8x2048x7168_S1x2048x7168_5_0_0 X G) U D))
    (share 6 slices_S36864x8_S36864x1_0_6 slices_S8x2048x7168_S1x2048x7168_6_0_0 slices_S8x7168x2048_S1x7168x2048_6_0_0 K X (gateDot 6 slices_S8x2048x7168_S1x2048x7168_6_0_0 X G) U D))
    (share 7 slices_S36864x8_S36864x1_0_7 slices_S8x2048x7168_S1x2048x7168_7_0_0 slices_S8x7168x2048_S1x7168x2048_7_0_0 K X (gateDot 7 slices_S8x2048x7168_S1x2048x7168_7_0_0 X G) U D)

theorem mixed_at (K : FVec Ideal S36864x8 .f32) (X : FVec Ideal S36864x2048 .f32) (G U : FVec Ideal S8x2048x7168 .f32) (D : FVec Ideal S8x7168x2048 .f32) (r : Fin 36864) (z : Fin 2048) :
    (mixed K X G U D (ix2 r z) : EReal) = ∑ e : Fin 8, K (ix2 r e) * KernelIdeal.Tables.expertAt X G U D e r z := by
  have h0 : ((broadcastInDim S36864x2048 ![] bcast_S_S36864x2048 (constant (F := Ideal) S_ .f32 0x00000000#32)) (ix2 r z) : EReal) = 0 := by pointwise
  rw [Fin.sum_univ_eight]
  have h1 := share_at 0 slices_S36864x8_S36864x1_0_0 slices_S8x2048x7168_S1x2048x7168_0_0_0 slices_S8x7168x2048_S1x7168x2048_0_0_0 K X G U D 0 rfl r z
  have h2 := share_at 1 slices_S36864x8_S36864x1_0_1 slices_S8x2048x7168_S1x2048x7168_1_0_0 slices_S8x7168x2048_S1x7168x2048_1_0_0 K X G U D 1 rfl r z
  have h3 := share_at 2 slices_S36864x8_S36864x1_0_2 slices_S8x2048x7168_S1x2048x7168_2_0_0 slices_S8x7168x2048_S1x7168x2048_2_0_0 K X G U D 2 rfl r z
  have h4 := share_at 3 slices_S36864x8_S36864x1_0_3 slices_S8x2048x7168_S1x2048x7168_3_0_0 slices_S8x7168x2048_S1x7168x2048_3_0_0 K X G U D 3 rfl r z
  have h5 := share_at 4 slices_S36864x8_S36864x1_0_4 slices_S8x2048x7168_S1x2048x7168_4_0_0 slices_S8x7168x2048_S1x7168x2048_4_0_0 K X G U D 4 rfl r z
  have h6 := share_at 5 slices_S36864x8_S36864x1_0_5 slices_S8x2048x7168_S1x2048x7168_5_0_0 slices_S8x7168x2048_S1x7168x2048_5_0_0 K X G U D 5 rfl r z
  have h7 := share_at 6 slices_S36864x8_S36864x1_0_6 slices_S8x2048x7168_S1x2048x7168_6_0_0 slices_S8x7168x2048_S1x7168x2048_6_0_0 K X G U D 6 rfl r z
  have h8 := share_at 7 slices_S36864x8_S36864x1_0_7 slices_S8x2048x7168_S1x2048x7168_7_0_0 slices_S8x7168x2048_S1x7168x2048_7_0_0 K X G U D 7 rfl r z
  rw [← h1, ← h2, ← h3, ← h4, ← h5, ← h6, ← h7, ← h8]
  refine Eq.trans ?_ (congrArg (fun q : EReal => q + _ + _ + _ + _ + _ + _ + _) (zero_add _))
  rw [← h0]
  rfl

/-- Where the gate row is one at one expert, or nowhere, the sum is that expert's value, or nothing. -/
theorem onehot (x : Fin 8 → EReal) (k : Fin 8 → EReal) (a : Fin 8) (hk : ∀ e, k e = if e = a then 1 else 0) : ∑ e : Fin 8, k e * x e = x a := by
  rw [Finset.sum_eq_single a]
  · rw [hk, if_pos rfl, one_mul]
  · intro b _ hb; rw [hk, if_neg hb, zero_mul]
  · intro h; exact absurd (Finset.mem_univ a) h

theorem nohot (x : Fin 8 → EReal) (k : Fin 8 → EReal) (hk : ∀ e, k e = 0) : ∑ e : Fin 8, k e * x e = 0 :=
  Finset.sum_eq_zero fun e _ => by rw [hk, zero_mul]

theorem hot (a b c d : BitVec 32) : Scalar.select (IntOp.andi (IntOp.cmpi .eq a b) (IntOp.cmpi .eq c d)) (1 : EReal) 0 = if a = b ∧ c = d then 1 else 0 := by
  have e1 : (a == b) = decide (a = b) := rfl
  have e2 : (c == d) = decide (c = d) := rfl
  by_cases h1 : a = b <;> by_cases h2 : c = d <;> simp [IntOp.cmpi, IntOp.andi, Scalar.select, e1, e2, h1, h2]

theorem entry_eq (n : ℕ) (h : n < 72) : (ix1 ⟨n, h⟩ : S72.Idx) = KernelIdeal.Tables.ix n h := by
  funext a; fin_cases a; rfl

/-- The reference's sum is the kernel's array, at tables in range. -/
theorem mixed_eq (T : KernelIdeal.Tables.Tab) (m : (ℓ : Loc KernelIdeal.nD KernelIdeal.τ KernelIdeal.sig) → Buf (Elt Ideal) ℓ) (c : Dev KernelIdeal.nD) :
    mixed (gates T.te T.tv) (m ((c.tc : Thread KernelIdeal.nD KernelIdeal.τ).loc KernelIdeal.main_arg0)) (m ((c.tc : Thread KernelIdeal.nD KernelIdeal.τ).loc KernelIdeal.main_arg3))
      (m ((c.tc : Thread KernelIdeal.nD KernelIdeal.τ).loc KernelIdeal.main_arg4)) (m ((c.tc : Thread KernelIdeal.nD KernelIdeal.τ).loc KernelIdeal.main_arg5))
      = KernelIdeal.Tables.wanted T m c := by
  funext j
  obtain ⟨r, z, rfl⟩ : ∃ (r : Fin 36864) (z : Fin 2048), j = ix2 r z := ⟨j 0, j 1, by funext a; fin_cases a <;> rfl⟩
  refine (mixed_at _ _ _ _ _ r z).trans ?_
  show _ = KernelIdeal.Tables.wantedAt T m c (KernelIdeal.Tables.tileOf r) r z
  have hq : r.val / 512 < 72 := (KernelIdeal.Tables.tileOf r).isLt
  have hk : ∀ e : Fin 8, (gates T.te T.tv (ix2 r e) : EReal)
      = if T.te (KernelIdeal.Tables.ix (r.val / 512) hq) = BitVec.ofNat 32 e.val ∧ T.tv (KernelIdeal.Tables.ix (r.val / 512) hq) = 1#32 then 1 else 0 := fun e => by
    rw [gates_at, hot, entry_eq]
  unfold KernelIdeal.Tables.wantedAt
  by_cases hv : T.tv (KernelIdeal.Tables.ix (r.val / 512) hq) = 1#32
  · rw [if_pos (show T.tv (KernelIdeal.Tables.ix (KernelIdeal.Tables.tileOf r).val _) = 1#32 from hv)]
    refine onehot _ _ _ fun e => (hk e).trans ?_
    have he : (T.te (KernelIdeal.Tables.ix (r.val / 512) hq) = BitVec.ofNat 32 e.val) ↔ e = KernelIdeal.Tables.expertOf T (KernelIdeal.Tables.tileOf r) := by
      have hx : (KernelIdeal.Tables.expertOf T (KernelIdeal.Tables.tileOf r)).val = (T.te (KernelIdeal.Tables.ix (r.val / 512) hq)).toNat := rfl
      have h8 := e.isLt
      rw [Fin.ext_iff, hx, ← BitVec.toNat_inj, BitVec.toNat_ofNat]
      omega
    simp only [hv, and_true, he]
  · rw [if_neg (show ¬T.tv (KernelIdeal.Tables.ix (KernelIdeal.Tables.tileOf r).val _) = 1#32 from hv)]
    exact nohot _ _ fun e => (hk e).trans (if_neg fun h => hv h.2)

/-- The reference's result buffer is the gated sum of its arguments, and its arguments are unchanged. -/
theorem run_mixed (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v149) = mixed (gates (m ((c.tc : Thread nD τ).loc main_arg1)) (m ((c.tc : Thread nD τ).loc main_arg2)))
        (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (by
    unfold res_main_v101 mixed share gates gateDot res_main_v20 res_main_v29 res_main_v45 res_main_v61 res_main_v77 res_main_v93 res_main_v109 res_main_v125 res_main_v141
    rfl), (h c).2⟩) (Value.run (F := Ideal) m ρ)

end Cert.ReferenceIdeal.Mix

end

end
-- ==== Proof.Ranges.lean ====
/- What the precondition says of the two tables. -/
module

public import proofs.«01_k».proof.Defs
public import proofs.«01_k».proof.Proof.Gen.Pre_tile_ranges
public import Idealize.ShloMosaic.Lib.ReduceAll

@[expose] public section

set_option maxRecDepth 16384

noncomputable section

namespace Cert.Pre_tile_ranges

open Cert.Pre_tile_ranges Idealize.ShloMosaic

/-- A conjunction of tests. -/
theorem both {s : Shape} {x y : IVec s 1} {j : s.Idx} (h : andi x y j = 1#1) : x j = 1#1 ∧ y j = 1#1 := by
  have h' : x j &&& y j = 1#1 := h
  generalize x j = a at h'
  generalize y j = b at h'
  revert a b
  decide

/-- A word between zero and a small bound, as signed numbers, is below it as a number. -/
theorem below (x : BitVec 32) (n : ℕ) (hn : n < 2 ^ 31) (h0 : IntOp.cmpi .sge x 0#32 = 1#1) (h1 : IntOp.cmpi .slt x (BitVec.ofNat 32 n) = 1#1) : x.toNat < n := by
  have a0 : (0#32).sle x = true := by
    by_contra hc
    rw [Bool.not_eq_true] at hc
    simp only [IntOp.cmpi, hc] at h0
    exact absurd h0 (by decide)
  have a1 : x.slt (BitVec.ofNat 32 n) = true := by
    by_contra hc
    rw [Bool.not_eq_true] at hc
    simp only [IntOp.cmpi, hc] at h1
    exact absurd h1 (by decide)
  rw [BitVec.sle_iff_toInt_le] at a0
  rw [BitVec.slt_iff_toInt_lt] at a1
  rw [BitVec.toInt_eq_toNat_cond, BitVec.toInt_eq_toNat_cond] at a0 a1
  simp only [BitVec.toNat_ofNat] at a0 a1
  have hx := x.isLt
  have hm : n % 2 ^ 32 = n := Nat.mod_eq_of_lt (by omega)
  rw [hm] at a1
  split at a0 <;> split at a1 <;> omega

variable [Facts]

/-- One table's test. -/
theorem range_of_all (x : IVec S72 32) (n : ℕ) (hn : n < 2 ^ 31) (hb) (hr : S72.ReducesTo [0] S_) (hu : 0 < S_.numel) (j : S_.Idx)
    (h : Host.reduce IntOp.andi (andi (cmpi .sge x (broadcastInDim S72 ![] hb (constantI S_ 32 0#32))) (cmpi .slt x (broadcastInDim S72 ![] hb (constantI S_ 32 (BitVec.ofNat 32 n)))))
      (constantI S_ 1 1#1) hr hu j = 1#1) (i : S72.Idx) : (x i).toNat < n := by
  have : Subsingleton S_.Idx := ⟨fun a b => funext fun k => k.elim0⟩
  obtain ⟨h0, h1⟩ := both (Host.reduce_andi_all _ _ hr hu j h i)
  exact below (x i) n hn h0 h1

/-- Under the predicate every expert is below eight and every flag is zero or one. -/
theorem ranges {F : FTy → Type} [FloatOps F] (a0 : FVec F S36864x2048 .f32) (te tv : IVec S72 32) (a3 a4 : FVec F S8x2048x7168 .bf16) (a5 : FVec F S8x7168x2048 .bf16)
    (h : fn (F := F) a0 te tv a3 a4 a5 = fun _ => 1#1) : (∀ i, (te i).toNat < 8) ∧ ∀ i, tv i = 0#32 ∨ tv i = 1#32 := by
  have h := congrFun h (fun k => k.elim0)
  dsimp only [fn] at h
  obtain ⟨h0, h1⟩ := both h
  refine ⟨range_of_all te 8 (by norm_num) _ _ _ _ h0, fun i => ?_⟩
  have h2 := range_of_all tv 2 (by norm_num) _ _ _ _ h1 i
  have h3 : (tv i).toNat = 0 ∨ (tv i).toNat = 1 := by omega
  exact h3.imp (fun e => BitVec.eq_of_toNat_eq e) (fun e => BitVec.eq_of_toNat_eq e)

end Cert.Pre_tile_ranges

end

end
-- ==== Proof.Dense.lean ====
/- What each way through the dense feed-forward body leaves, read at an index. -/
module

public import proofs.«01_k».proof.Proof.Gen.Kernel2Ideal.Value
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Dense

open Cert.Kernel2Ideal Cert.Kernel2Ideal.Gen Cert.Kernel2Ideal.Value Idealize.ShloMosaic Idealize.ShloMosaic.TcCoe Idealize.SL.Sem
open scoped BigOperators

/-- One row's gated unit, from its products with a gate column and an up column. -/
def unit (g u : EReal) : EReal := g * Ideal.div 1 (1 + Ideal.exp (-g)) * u

/-- What one chunk of the feed-forward width adds to an output row. -/
def term (x : FVec Ideal S640x2048 .bf16) (g u : FVec Ideal S2048x512 .bf16) (d : FVec Ideal S512x2048 .bf16) (y : Fin 640) (z : Fin 2048) : EReal :=
  ∑ k : Fin 512, unit (∑ l : Fin 2048, x (ix2 y l) * g (ix2 l k)) (∑ l : Fin 2048, x (ix2 y l) * u (ix2 l k)) * d (ix2 k z)

theorem pay1_at (x : Vec Ideal S640x2048 .bf16) (g u : Vec Ideal S2048x512 .bf16) (d : Vec Ideal S512x2048 .bf16) (y : Fin 640) (z : Fin 2048) :
    k0_pay1 (F := Ideal) x g u d (ix2 y z) = term x g u d y z := by
  unfold term unit
  pointwise [k0_pay1]
  simp only [zero_sub]

theorem pay2_at (x : Vec Ideal S640x2048 .bf16) (g u : Vec Ideal S2048x512 .bf16) (d : Vec Ideal S512x2048 .bf16) (y : Fin 640) (z : Fin 2048) :
    k0_pay2 (F := Ideal) x g u d (ix2 y z) = term x g u d y z := by
  rw [← pay1_at]
  pointwise [k0_pay2]

theorem pay3_at (x : Vec Ideal S640x2048 .bf16) (g u : Vec Ideal S2048x512 .bf16) (d : Vec Ideal S512x2048 .bf16) (a : Vec Ideal S640x2048 .f32) (y : Fin 640) (z : Fin 2048) :
    k0_pay3 (F := Ideal) x g u d a (ix2 y z) = a (ix2 y z) + term x g u d y z := by
  rw [← pay1_at]
  pointwise [k0_pay3]

theorem slt_iff (n : ℕ) (h : n < 20000) : ((BitVec.ofNat 32 n).slt 16384#32) = decide (n < 16384) := by
  have e : (BitVec.ofNat 32 n).toNat = n := by rw [BitVec.toNat_ofNat]; exact Nat.mod_eq_of_lt (by omega)
  have e' : (BitVec.ofNat 32 n).toInt = (n : ℤ) := by rw [BitVec.toInt_eq_toNat_of_lt (by omega), e]
  rw [BitVec.slt, e']
  have k : (16384#32 : BitVec 32).toInt = ((16384 : ℕ) : ℤ) := by decide
  rw [k]
  exact decide_eq_decide.2 Nat.cast_lt

/-- The kernel's comparison of a row's number with the count of image rows. -/
theorem select_row (a : ℕ) (ha : a < 26) (y : Fin 640) (p q : EReal) :
    Scalar.select (IntOp.cmpi CmpIPredicate.slt (IntOp.addi (Scalar.muli (BitVec.ofNat 32 a) 640#32) (BitVec.ofNat 32 y.val)) 16384#32) p q
      = if a * 640 + y.val < 16384 then p else q := by
  have hy := y.isLt
  have e : IntOp.addi (Scalar.muli (BitVec.ofNat 32 a) 640#32) (BitVec.ofNat 32 y.val) = BitVec.ofNat 32 (a * 640 + y.val) := by
    rw [BitVec.ofNat_add, BitVec.ofNat_mul]; rfl
  rw [e]
  show (if BitVec.ofBool ((BitVec.ofNat 32 (a * 640 + y.val)).slt 16384#32) = 1#1 then p else q) = _
  rw [slt_iff _ (by omega)]
  by_cases h : a * 640 + y.val < 16384
  · rw [if_pos h, decide_eq_true h]; rfl
  · rw [if_neg h, decide_eq_false h]; rfl

theorem pay4_at (i : grid0.Coords) (x : Vec Ideal S640x2048 .f32) (g0 g1 : Vec Ideal S1x2048 .f32) (a : Vec Ideal S640x2048 .f32) (y : Fin 640) (z : Fin 2048) :
    (k0_pay4 (F := Ideal) i x g0 g1 a (ix2 y z) : EReal)
      = x (ix2 y z) + (if (i 0).val * 640 + y.val < 16384 then g0 (ix2 0 z) else g1 (ix2 0 z)) * a (ix2 y z) := by
  have h : (i 0).val < 26 := (i 0).isLt
  pointwise [k0_pay4]
  rw [select_row _ h y]

variable (m : (ℓ : Loc nD τ sig) → Buf (Elt Ideal) ℓ)

theorem acc_A (c : Dev nD) (t : Fin cfg0.N) (h0 : t.val % 11 = 0) (h1 : ¬1 ≤ t.val % 11) (h2 : ¬t.val % 11 = 10) (y : Fin 640) (z : Fin 2048) :
    ((outsAt0 m c t.val t.isLt).2 (ix2 y z) : EReal) = term (iblk m c 2 t) (iblk m c 3 t) (iblk m c 4 t) (iblk m c 5 t) y z := by
  rw [← pay2_at]
  rw [outsAt0_A m c t h0 h1 h2]
  frame_out

theorem acc_B (c : Dev nD) (t : Fin cfg0.N) (h0 : ¬t.val % 11 = 0) (h1 : 1 ≤ t.val % 11) (h2 : ¬t.val % 11 = 10) (y : Fin 640) (z : Fin 2048) :
    ((outsAt0 m c t.val t.isLt).2 (ix2 y z) : EReal)
      = (outsAt0 m c (t.val - 1) (Nat.lt_of_le_of_lt (Nat.sub_le _ _) t.isLt)).2 (ix2 y z) + term (iblk m c 2 t) (iblk m c 3 t) (iblk m c 4 t) (iblk m c 5 t) y z := by
  rw [← pay3_at]
  rw [outsAt0_B m c t h0 h1 h2]
  frame_out
  simp only [read_unread_whole]

theorem row_at (g : Vec Ideal S2x2048 .f32) (z : Fin 2048) (inb) (inb') :
    (View.ld g (Rect.unit (s := S2x2048) ![0, 0] S1x2048.size inb) (ix2 0 z) : EReal) = g (ix2 0 z)
    ∧ (View.ld g (Rect.unit (s := S2x2048) ![1, 0] S1x2048.size inb') (ix2 0 z) : EReal) = g (ix2 1 z) := by
  constructor
  · pointwise
  · pointwise

/-- An output value: the row's residual and its modality's gate on the feed-forward sum `a`, in the row tile `i`. -/
def gated (x : FVec Ideal S640x2048 .f32) (g : FVec Ideal S2x2048 .f32) (i : ℕ) (a : EReal) (y : Fin 640) (z : Fin 2048) : EReal :=
  x (ix2 y z) + (if i * 640 + y.val < 16384 then g (ix2 0 z) else g (ix2 1 z)) * a

theorem out_C (c : Dev nD) (t : Fin cfg0.N) (h0 : ¬t.val % 11 = 0) (h1 : 1 ≤ t.val % 11) (h2 : t.val % 11 = 10) (y : Fin 640) (z : Fin 2048) :
    ((outsAt0 m c t.val t.isLt).1 (ix2 y z) : EReal)
      = gated (iblk m c 0 t) (iblk m c 1 t) (grid0.coords t 0).val
        ((outsAt0 m c (t.val - 1) (Nat.lt_of_le_of_lt (Nat.sub_le _ _) t.isLt)).2 (ix2 y z) + term (iblk m c 2 t) (iblk m c 3 t) (iblk m c 4 t) (iblk m c 5 t) y z) y z := by
  unfold gated
  rw [← pay3_at]
  rw [outsAt0_C m c t h0 h1 h2]
  frame_out
  simp only [read_unread_whole]
  refine (pay4_at _ _ _ _ _ y z).trans ?_
  have hr := row_at (iblk m c 1 t) z inb_S2x2048_S1x2048_0_0 inb_S2x2048_S1x2048_1_0
  rw [hr.1, hr.2]

end Cert.Kernel2Ideal.Dense

end

end
-- ==== Proof.DenseSum.lean ====
/- The dense feed-forward's running sum over the chunks of its width, and the array its launch leaves. -/
module

public import proofs.«01_k».proof.Proof.Dense
public import Idealize.ShloMosaic.Lib.Pipeline.Covers

@[expose] public section

set_option maxRecDepth 16384

noncomputable section

namespace Cert.Kernel2Ideal.Dense

open Cert.Kernel2Ideal Cert.Kernel2Ideal.Gen Cert.Kernel2Ideal.Value Idealize.ShloMosaic Idealize.ShloMosaic.TcCoe Idealize.SL.Sem
open scoped BigOperators

/-- One place of the feed-forward width: its share of an output value. -/
def lane (H : FVec Ideal S16640x2048 .f32) (G U : FVec Ideal S1x2048x5632 .f32) (D : FVec Ideal S1x5632x2048 .f32)
    (r : Fin 16640) (z : Fin 2048) (f : Fin 5632) : EReal :=
  unit (∑ l : Fin 2048, H (ix2 r l) * G (ix3 0 l f)) (∑ l : Fin 2048, H (ix2 r l) * U (ix3 0 l f)) * D (ix3 0 f z)

/-- The same at a number of the width, nothing outside of it. -/
def laneN (H : FVec Ideal S16640x2048 .f32) (G U : FVec Ideal S1x2048x5632 .f32) (D : FVec Ideal S1x5632x2048 .f32)
    (r : Fin 16640) (z : Fin 2048) (i : ℕ) : EReal := if h : i < 5632 then lane H G U D r z ⟨i, h⟩ else 0

/-- The whole width at one output value. -/
def ffnAt (H : FVec Ideal S16640x2048 .f32) (G U : FVec Ideal S1x2048x5632 .f32) (D : FVec Ideal S1x5632x2048 .f32)
    (r : Fin 16640) (z : Fin 2048) : EReal := ∑ f : Fin 5632, lane H G U D r z f

/-- The residual with its modality's gate on the feed-forward. -/
def residual (X : FVec Ideal S16640x2048 .f32) (A : FVec Ideal S2x2048 .f32) (H : FVec Ideal S16640x2048 .f32)
    (G U : FVec Ideal S1x2048x5632 .f32) (D : FVec Ideal S1x5632x2048 .f32) : FVec Ideal S16640x2048 .f32 := fun i =>
  (X (ix2 (i 0) (i 1)) : EReal) + (if (i 0).val < 16384 then (A (ix2 0 (i 1)) : EReal) else A (ix2 1 (i 1))) * ffnAt H G U D (i 0) (i 1)

theorem chunks_sum (H : FVec Ideal S16640x2048 .f32) (G U : FVec Ideal S1x2048x5632 .f32) (D : FVec Ideal S1x5632x2048 .f32)
    (r : Fin 16640) (z : Fin 2048) :
    ∑ s ∈ Finset.range 11, ∑ k : Fin 512, laneN H G U D r z (s * 512 + k.val) = ffnAt H G U D r z := by
  unfold ffnAt
  rw [Finset.sum_range]
  refine Fin.sum_mul_add_congr (S := 11) (n := 512) fun s k hl => ?_
  unfold laneN
  rw [dif_pos hl]

theorem crd0 : ∀ t : Fin cfg0.N, (grid0.coords t 0).val = t.val / 11 := by decide +kernel
theorem idx0 : ∀ t : Fin cfg0.N, (cfg0.win 0).index t = ![t.val / 11, 0] := by decide +kernel
theorem idx1 : ∀ t : Fin cfg0.N, (cfg0.win 1).index t = ![0, 0] := by decide +kernel
theorem idx2 : ∀ t : Fin cfg0.N, (cfg0.win 2).index t = ![t.val / 11, 0] := by decide +kernel
theorem idx3 : ∀ t : Fin cfg0.N, (cfg0.win 3).index t = ![0, t.val % 11] := by decide +kernel
theorem idx4 : ∀ t : Fin cfg0.N, (cfg0.win 4).index t = ![0, t.val % 11] := by decide +kernel
theorem idx5 : ∀ t : Fin cfg0.N, (cfg0.win 5).index t = ![t.val % 11, 0] := by decide +kernel
theorem idx6 : ∀ t : Fin cfg0.N, (cfg0.win 6).index t = ![t.val / 11, 0] := by decide +kernel

variable (m : (ℓ : Loc nD τ sig) → Buf (Elt Ideal) ℓ)

theorem h_host (c : Dev nD) (r : Fin 16640) (l : Fin 2048) :
    (V m c main_v0 (ix2 r l) : EReal) = m ((c : Thread nD τ).loc main_arg2) (ix2 r l) := by
  dsimp only [V, hostOps0]
  entry_read
  pointwise

theorem g_host (c : Dev nD) (l : Fin 2048) (f : Fin 5632) :
    (V m c main_v2 (ix2 l f) : EReal) = m ((c : Thread nD τ).loc main_arg3) (ix3 0 l f) := by
  dsimp only [V, hostOps0]
  entry_read
  pointwise

theorem u_host (c : Dev nD) (l : Fin 2048) (f : Fin 5632) :
    (V m c main_v4 (ix2 l f) : EReal) = m ((c : Thread nD τ).loc main_arg4) (ix3 0 l f) := by
  dsimp only [V, hostOps0]
  entry_read
  pointwise

theorem d_host (c : Dev nD) (f : Fin 5632) (z : Fin 2048) :
    (V m c main_v6 (ix2 f z) : EReal) = m ((c : Thread nD τ).loc main_arg5) (ix3 0 f z) := by
  dsimp only [V, hostOps0]
  entry_read
  pointwise

theorem x_at (c : Dev nD) (t : Fin cfg0.N) (y : Fin 640) (l : Fin 2048) (r : Fin 16640) (hr : r.val = t.val / 11 * 640 + y.val) :
    (iblk m c 0 t (ix2 y l) : EReal) = m ((c : Thread nD τ).loc main_arg0) (ix2 r l) := by
  rw [← V_main_arg0 m c]
  blk_ext [iblk]
  · exact (congrArg (fun q => q * 640 + y.val) (congrFun (idx0 t) 0)).trans hr.symm
  · exact (congrArg (fun q => q * 2048 + l.val) (congrFun (idx0 t) 1)).trans (by show 0 * 2048 + l.val = _; omega)

theorem a_at (c : Dev nD) (t : Fin cfg0.N) (a : Fin 2) (l : Fin 2048) :
    (iblk m c 1 t (ix2 a l) : EReal) = m ((c : Thread nD τ).loc main_arg1) (ix2 a l) := by
  rw [← V_main_arg1 m c]
  blk_ext [iblk]
  · exact (congrArg (fun q => q * 2 + a.val) (congrFun (idx1 t) 0)).trans (by show 0 * 2 + a.val = _; omega)
  · exact (congrArg (fun q => q * 2048 + l.val) (congrFun (idx1 t) 1)).trans (by show 0 * 2048 + l.val = _; omega)

theorem h_at (c : Dev nD) (t : Fin cfg0.N) (y : Fin 640) (l : Fin 2048) (r : Fin 16640) (hr : r.val = t.val / 11 * 640 + y.val) :
    (iblk m c 2 t (ix2 y l) : EReal) = m ((c : Thread nD τ).loc main_arg2) (ix2 r l) := by
  rw [← h_host m c r l]
  blk_ext [iblk]
  · exact (congrArg (fun q => q * 640 + y.val) (congrFun (idx2 t) 0)).trans hr.symm
  · exact (congrArg (fun q => q * 2048 + l.val) (congrFun (idx2 t) 1)).trans (by show 0 * 2048 + l.val = _; omega)

theorem g_at (c : Dev nD) (t : Fin cfg0.N) (l : Fin 2048) (k : Fin 512) (f : Fin 5632) (hf : f.val = t.val % 11 * 512 + k.val) :
    (iblk m c 3 t (ix2 l k) : EReal) = m ((c : Thread nD τ).loc main_arg3) (ix3 0 l f) := by
  rw [← g_host m c l f]
  blk_ext [iblk]
  · exact (congrArg (fun q => q * 2048 + l.val) (congrFun (idx3 t) 0)).trans (by show 0 * 2048 + l.val = _; omega)
  · exact (congrArg (fun q => q * 512 + k.val) (congrFun (idx3 t) 1)).trans hf.symm

theorem u_at (c : Dev nD) (t : Fin cfg0.N) (l : Fin 2048) (k : Fin 512) (f : Fin 5632) (hf : f.val = t.val % 11 * 512 + k.val) :
    (iblk m c 4 t (ix2 l k) : EReal) = m ((c : Thread nD τ).loc main_arg4) (ix3 0 l f) := by
  rw [← u_host m c l f]
  blk_ext [iblk]
  · exact (congrArg (fun q => q * 2048 + l.val) (congrFun (idx4 t) 0)).trans (by show 0 * 2048 + l.val = _; omega)
  · exact (congrArg (fun q => q * 512 + k.val) (congrFun (idx4 t) 1)).trans hf.symm

theorem d_at (c : Dev nD) (t : Fin cfg0.N) (k : Fin 512) (z : Fin 2048) (f : Fin 5632) (hf : f.val = t.val % 11 * 512 + k.val) :
    (iblk m c 5 t (ix2 k z) : EReal) = m ((c : Thread nD τ).loc main_arg5) (ix3 0 f z) := by
  rw [← d_host m c f z]
  blk_ext [iblk]
  · exact (congrArg (fun q => q * 512 + k.val) (congrFun (idx5 t) 0)).trans hf.symm
  · exact (congrArg (fun q => q * 2048 + z.val) (congrFun (idx5 t) 1)).trans (by show 0 * 2048 + z.val = _; omega)

/-- The launch's feed-forward arguments, at a number of the width. -/
def laneM (c : Dev nD) (r : Fin 16640) (z : Fin 2048) (i : ℕ) : EReal :=
  laneN (m ((c : Thread nD τ).loc main_arg2)) (m ((c : Thread nD τ).loc main_arg3)) (m ((c : Thread nD τ).loc main_arg4)) (m ((c : Thread nD τ).loc main_arg5)) r z i

theorem term_at (c : Dev nD) (t : Fin cfg0.N) (y : Fin 640) (r : Fin 16640) (hr : r.val = t.val / 11 * 640 + y.val) (z : Fin 2048) :
    term (iblk m c 2 t) (iblk m c 3 t) (iblk m c 4 t) (iblk m c 5 t) y z = ∑ k : Fin 512, laneM m c r z (t.val % 11 * 512 + k.val) := by
  unfold term laneM
  refine Finset.sum_congr rfl fun k _ => ?_
  have hk : t.val % 11 * 512 + k.val < 5632 := by have := k.isLt; omega
  unfold laneN
  rw [dif_pos hk]
  unfold lane
  refine congrArg₂ (fun a b : EReal => a * b) (congrArg₂ unit ?_ ?_) (d_at m c t k z ⟨_, hk⟩ rfl)
  · exact Finset.sum_congr rfl fun l _ => congrArg₂ (fun a b : EReal => a * b) (h_at m c t y l r hr) (g_at m c t l k ⟨_, hk⟩ rfl)
  · exact Finset.sum_congr rfl fun l _ => congrArg₂ (fun a b : EReal => a * b) (h_at m c t y l r hr) (u_at m c t l k ⟨_, hk⟩ rfl)

/-- The scratch sum inside a row tile: the chunks so far. -/
theorem acc_at (c : Dev nD) (f : ℕ) (hf : f < 10) : ∀ t : Fin cfg0.N, t.val % 11 = f → ∀ (y : Fin 640) (r : Fin 16640),
    r.val = t.val / 11 * 640 + y.val → ∀ z : Fin 2048, ((outsAt0 m c t.val t.isLt).2 (ix2 y z) : EReal)
      = ∑ s ∈ Finset.range (f + 1), ∑ k : Fin 512, laneM m c r z (s * 512 + k.val) := by
  induction f with
  | zero =>
    intro t ht y r hr z
    rw [acc_A m c t ht (by omega) (by omega), term_at m c t y r hr z, Finset.sum_range_one, ht]
  | succ f ih =>
    intro t ht y r hr z
    have hN : t.val - 1 < cfg0.N := Nat.lt_of_le_of_lt (Nat.sub_le _ _) t.isLt
    have e := ih (by omega) ⟨t.val - 1, hN⟩ (by show (t.val - 1) % 11 = f; omega) y r
      (by show r.val = (t.val - 1) / 11 * 640 + y.val; rw [hr]; congr 2; omega) z
    rw [acc_B m c t (by omega) (by omega) (by omega), term_at m c t y r hr z, Finset.sum_range_succ, ht]
    exact congrArg (fun q : EReal => q + _) e

theorem out_at (c : Dev nD) (t : Fin cfg0.N) (ht : t.val % 11 = 10) (y : Fin 640) (r : Fin 16640) (hr : r.val = t.val / 11 * 640 + y.val) (z : Fin 2048) :
    ((outsAt0 m c t.val t.isLt).1 (ix2 y z) : EReal)
      = residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 r z) := by
  have hN : t.val - 1 < cfg0.N := Nat.lt_of_le_of_lt (Nat.sub_le _ _) t.isLt
  have e := acc_at m c 9 (by omega) ⟨t.val - 1, hN⟩ (by show (t.val - 1) % 11 = 9; omega) y r
      (by show r.val = (t.val - 1) / 11 * 640 + y.val; rw [hr]; congr 2; omega) z
  rw [out_C m c t (by omega) (by omega) ht y z]
  have s : (((outsAt0 m c (t.val - 1) hN).2 (ix2 y z) : EReal) + term (iblk m c 2 t) (iblk m c 3 t) (iblk m c 4 t) (iblk m c 5 t) y z : EReal)
      = ffnAt (m ((c : Thread nD τ).loc main_arg2)) (m ((c : Thread nD τ).loc main_arg3)) (m ((c : Thread nD τ).loc main_arg4)) (m ((c : Thread nD τ).loc main_arg5)) r z := by
    rw [← chunks_sum, Finset.sum_range_succ]
    refine congrArg₂ (fun a b : EReal => a + b) e ((term_at m c t y r hr z).trans ?_)
    rw [ht]
    rfl
  refine (congrArg (fun q : EReal => gated (iblk m c 0 t) (iblk m c 1 t) (grid0.coords t 0).val q y z) s).trans ?_
  unfold gated
  rw [crd0, ← hr]
  refine congrArg₂ (fun a b : EReal => a + b) (x_at m c t y z r hr) (congrArg (fun a : EReal => a * _) ?_)
  show _ = (if r.val < 16384 then _ else _)
  split
  · exact a_at m c t 0 z
  · exact a_at m c t 1 z

theorem final (c : Dev nD) : (dats m 0 c).arrAt 6 cfg0.N
    = residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 (residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) (by decide +kernel) fun t hf y => ?_
  have ht : t.val % 11 = 10 := (flush0_6 t).1 hf
  have hy0 : (y 0).val < 640 := (y 0).isLt
  have hy1 : (y 1).val < 2048 := (y 1).isLt
  have htN : t.val < 286 := t.isLt
  blk_simp
  rw [after0_6]
  have hi0 := congrFun (idx6 t) 0
  have hi1 := congrFun (idx6 t) 1
  refine Eq.trans (congrArg (fun z : S640x2048.Idx => ((outsAt0 m c t.val t.isLt).1 z : EReal)) ?_) ((out_at m c t ht
    ⟨(y 0).val, hy0⟩ ⟨t.val / 11 * 640 + (y 0).val, by omega⟩ rfl ⟨(y 1).val, hy1⟩).trans ?_)
  · funext a
    fin_cases a <;> rfl
  · generalize residual (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) = W
    blk_ext []
    · exact congrArg (fun q => q * 640 + (y 0).val) hi0.symm
    · exact (by show (y 1).val = 0 * 2048 + (y 1).val; omega : (y 1).val = ![t.val / 11, 0] 1 * 2048 + (y 1).val).trans (congrArg (fun q => q * 2048 + (y 1).val) hi1.symm)

end Cert.Kernel2Ideal.Dense

end

end
-- ==== Proof.DenseRef.lean ====
/- The reference's dense feed-forward: its printed term at an index is the array the launch leaves. -/
module

public import proofs.«01_k».proof.Proof.DenseSum
public import proofs.«01_k».proof.Proof.Gen.Reference2Ideal.Run

@[expose] public section

set_option maxRecDepth 16384

noncomputable section

namespace Cert.Reference2Ideal.Dense

open Cert.Reference2Ideal Cert.Reference2Ideal.Gen Idealize.ShloMosaic Idealize.ShloMosaic.TcCoe Idealize.SL.Sem
open scoped BigOperators

/-- The reference's feed-forward of the normed rows. -/
def ffn (H : FVec Ideal S16640x2048 .f32) (G U : FVec Ideal S1x2048x5632 .f32) (D : FVec Ideal S1x5632x2048 .f32) : FVec Ideal S16640x2048 .f32 :=
  Host.dotGeneral dot_S16640x5632_S5632x2048_S16640x2048_1_0_0_1_n_n none
    (mulf (mulf (Host.dotGeneral dot_S16640x2048_S2048x5632_S16640x5632_1_0_0_1_n_n none H (shapeCast S2048x5632 G shapeCasts_S1x2048x5632_S2048x5632))
      (Host.divf (broadcastInDim S16640x5632 ![] bcast_S_S16640x5632 (constant S_ .f32 0x3F800000#32))
      (addf (broadcastInDim S16640x5632 ![] bcast_S_S16640x5632 (constant S_ .f32 0x3F800000#32)) (Host.exp (Host.negf (Host.dotGeneral dot_S16640x2048_S2048x5632_S16640x5632_1_0_0_1_n_n none H (shapeCast S2048x5632 G shapeCasts_S1x2048x5632_S2048x5632))))))) (Host.dotGeneral dot_S16640x2048_S2048x5632_S16640x5632_1_0_0_1_n_n none H (shapeCast S2048x5632 U shapeCasts_S1x2048x5632_S2048x5632)))
    (shapeCast S5632x2048 D shapeCasts_S1x5632x2048_S5632x2048)

/-- The reference's image rows with their gate above its text rows with theirs. -/
def joined (X : FVec Ideal S16640x2048 .f32) (A : FVec Ideal S2x2048 .f32) (Y : FVec Ideal S16640x2048 .f32) : FVec Ideal S16640x2048 .f32 :=
  concatenate S16640x2048 0
    [⟨S16384x2048, (addf (extractStridedSlice S16384x2048 ![0, 0] X slices_S16640x2048_S16384x2048_0_0) (mulf (broadcastInDim S16384x2048 ![0, 1] bcast_S1x2048_S16384x2048_0_1 (broadcastInDim S1x2048 ![1] bcast_S2048_S1x2048_1 (shapeCast S2048 (extractStridedSlice S1x2048 ![0, 0] A slices_S2x2048_S1x2048_0_0) shapeCasts_S1x2048_S2048))) (extractStridedSlice S16384x2048 ![0, 0] Y slices_S16640x2048_S16384x2048_0_0)))⟩,
     ⟨S256x2048, (addf (extractStridedSlice S256x2048 ![16384, 0] X slices_S16640x2048_S256x2048_16384_0) (mulf (broadcastInDim S256x2048 ![0, 1] bcast_S1x2048_S256x2048_0_1 (broadcastInDim S1x2048 ![1] bcast_S2048_S1x2048_1 (shapeCast S2048 (extractStridedSlice S1x2048 ![1, 0] A slices_S2x2048_S1x2048_1_0) shapeCasts_S1x2048_S2048))) (extractStridedSlice S256x2048 ![16384, 0] Y slices_S16640x2048_S256x2048_16384_0)))⟩]
    concatenates_S16384x2048_S256x2048_S16640x2048_d0

theorem ffn_at (H : FVec Ideal S16640x2048 .f32) (G U : FVec Ideal S1x2048x5632 .f32) (D : FVec Ideal S1x5632x2048 .f32) (r : Fin 16640) (z : Fin 2048) :
    (ffn H G U D (ix2 r z) : EReal) = Cert.Kernel2Ideal.Dense.ffnAt H G U D r z := by
  unfold Cert.Kernel2Ideal.Dense.ffnAt Cert.Kernel2Ideal.Dense.lane Cert.Kernel2Ideal.Dense.unit
  pointwise [ffn]

theorem joined_at (X : FVec Ideal S16640x2048 .f32) (A : FVec Ideal S2x2048 .f32) (Y : FVec Ideal S16640x2048 .f32) (r : Fin 16640) (z : Fin 2048) :
    (joined X A Y (ix2 r z) : EReal) = (X (ix2 r z) : EReal) + (if r.val < 16384 then (A (ix2 0 z) : EReal) else A (ix2 1 z)) * Y (ix2 r z) := by
  pointwise [joined]
  split
  · rfl
  · have hr := r.isLt
    have e : (⟨16384 + (r.val - 16384), by omega⟩ : Fin 16640) = r := Fin.ext (by show 16384 + (r.val - 16384) = r.val; omega)
    rw [e]

theorem joined_eq (X : FVec Ideal S16640x2048 .f32) (A : FVec Ideal S2x2048 .f32) (H : FVec Ideal S16640x2048 .f32) (G U : FVec Ideal S1x2048x5632 .f32) (D : FVec Ideal S1x5632x2048 .f32) :
    joined X A (ffn H G U D) = Cert.Kernel2Ideal.Dense.residual X A H G U D := by
  funext i
  have e : i = ix2 (i 0) (i 1) := by funext a; fin_cases a <;> rfl
  rw [e]
  refine (joined_at X A _ (i 0) (i 1)).trans ?_
  exact congrArg (fun q : EReal => _ + _ * q) (ffn_at H G U D (i 0) (i 1))

/-- The reference's run ends with its result at the residual of its arguments, and its arguments unchanged. -/
theorem run_residual (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = joined (m ((c.tc : Thread nD τ).loc main_arg0)) (m ((c.tc : Thread nD τ).loc main_arg1))
        (ffn (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

end Cert.Reference2Ideal.Dense

end

end
-- ==== Proof.Proj.lean ====
/- The layer's input projection: the array its launch leaves, and the reference's. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.Covers

@[expose] public section

set_option maxRecDepth 16384

noncomputable section

namespace Cert.Kernel3Ideal.Proj

open Cert.Kernel3Ideal Cert.Kernel3Ideal.Gen Cert.Kernel3Ideal.Value Idealize.ShloMosaic Idealize.ShloMosaic.TcCoe Idealize.SL.Sem
open scoped BigOperators

variable (m : (ℓ : Loc nD τ sig) → Buf (Elt Ideal) ℓ)

/-- The projection: a row of the first array against a column of the second. -/
def proj (A : FVec Ideal S16640x2048 .f32) (B : FVec Ideal S1x2048x6144 .f32) : FVec Ideal S16640x6144 .f32 :=
  fun i => ∑ l : Fin 2048, (A (ix2 (i 0) l) : EReal) * B (ix3 0 l (i 1))

theorem idx0 : ∀ t : Fin cfg0.N, (cfg0.win 0).index t = ![t.val % 13, 0] := by decide +kernel
theorem idx1 : ∀ t : Fin cfg0.N, (cfg0.win 1).index t = ![0, t.val / 13] := by decide +kernel
theorem idx2 : ∀ t : Fin cfg0.N, (cfg0.win 2).index t = ![t.val % 13, t.val / 13] := by decide +kernel

theorem left_at (c : Dev nD) (r : Fin 16640) (l : Fin 2048) :
    (V m c main_v0 (ix2 r l) : EReal) = m ((c : Thread nD τ).loc main_arg0) (ix2 r l) := by
  dsimp only [V, hostOps0]
  entry_read
  pointwise

theorem right_at (c : Dev nD) (l : Fin 2048) (n : Fin 6144) :
    (V m c main_v2 (ix2 l n) : EReal) = m ((c : Thread nD τ).loc main_arg1) (ix3 0 l n) := by
  dsimp only [V, hostOps0]
  entry_read
  pointwise

theorem a_at (c : Dev nD) (t : Fin cfg0.N) (y : Fin 1280) (l : Fin 2048) (r : Fin 16640) (hr : r.val = t.val % 13 * 1280 + y.val) :
    (iblk m c 0 t (ix2 y l) : EReal) = m ((c : Thread nD τ).loc main_arg0) (ix2 r l) := by
  rw [← left_at m c r l]
  blk_ext [iblk]
  · exact (congrArg (fun q => q * 1280 + y.val) (congrFun (idx0 t) 0)).trans hr.symm
  · exact (congrArg (fun q => q * 2048 + l.val) (congrFun (idx0 t) 1)).trans (by show 0 * 2048 + l.val = _; omega)

theorem b_at (c : Dev nD) (t : Fin cfg0.N) (l : Fin 2048) (k : Fin 1024) (n : Fin 6144) (hn : n.val = t.val / 13 * 1024 + k.val) :
    (iblk m c 1 t (ix2 l k) : EReal) = m ((c : Thread nD τ).loc main_arg1) (ix3 0 l n) := by
  rw [← right_at m c l n]
  blk_ext [iblk]
  · exact (congrArg (fun q => q * 2048 + l.val) (congrFun (idx1 t) 0)).trans (by show 0 * 2048 + l.val = _; omega)
  · exact (congrArg (fun q => q * 1024 + k.val) (congrFun (idx1 t) 1)).trans hn.symm

theorem pay_at (x : Vec Ideal S1280x2048 .bf16) (w : Vec Ideal S2048x1024 .bf16) (y : Fin 1280) (k : Fin 1024) :
    (k0_pay1 x w (ix2 y k) : EReal) = ∑ l : Fin 2048, (x (ix2 y l) : EReal) * w (ix2 l k) := by
  pointwise [k0_pay1]

theorem out_at (x : Vec Ideal S1280x2048 .bf16) (w : Vec Ideal S2048x1024 .bf16) (y : Fin 1280) (k : Fin 1024) :
    (out0_2 x w (ix2 y k) : EReal) = ∑ l : Fin 2048, (x (ix2 y l) : EReal) * w (ix2 l k) := by
  rw [← pay_at]
  unfold out0_2
  frame_out

theorem final (c : Dev nD) : (dats m 0 c).arrAt 2 cfg0.N
    = proj (m ((c : Thread nD τ).loc main_arg0)) (m ((c : Thread nD τ).loc main_arg1)) := by
  refine (dats m 0 c).arrAt_eq_of_covers 2 (proj (m ((c : Thread nD τ).loc main_arg0)) (m ((c : Thread nD τ).loc main_arg1)))
    (by decide +kernel) fun t hf y => ?_
  have hy0 : (y 0).val < 1280 := (y 0).isLt
  have hy1 : (y 1).val < 1024 := (y 1).isLt
  have htN : t.val < 78 := t.isLt
  blk_simp
  rw [after0_2]
  have hi0 := congrFun (idx2 t) 0
  have hi1 := congrFun (idx2 t) 1
  have hr : t.val % 13 * 1280 + (y 0).val < 16640 := by omega
  have hn : t.val / 13 * 1024 + (y 1).val < 6144 := by omega
  have key : (out0_2 (iblk m c 0 t) (iblk m c 1 t) (ix2 ⟨(y 0).val, hy0⟩ ⟨(y 1).val, hy1⟩) : EReal)
      = proj (m ((c : Thread nD τ).loc main_arg0)) (m ((c : Thread nD τ).loc main_arg1)) (ix2 ⟨t.val % 13 * 1280 + (y 0).val, hr⟩ ⟨t.val / 13 * 1024 + (y 1).val, hn⟩) := by
    rw [out_at]
    refine Finset.sum_congr rfl fun l _ => ?_
    rw [a_at m c t ⟨(y 0).val, hy0⟩ l ⟨t.val % 13 * 1280 + (y 0).val, hr⟩ rfl, b_at m c t l ⟨(y 1).val, hy1⟩ ⟨t.val / 13 * 1024 + (y 1).val, hn⟩ rfl]
    rfl
  refine Eq.trans (congrArg (fun z : S1280x1024.Idx => (out0_2 (iblk m c 0 t) (iblk m c 1 t) z : EReal)) ?_) (key.trans ?_)
  · funext a
    fin_cases a <;> rfl
  · generalize proj (m ((c : Thread nD τ).loc main_arg0)) (m ((c : Thread nD τ).loc main_arg1)) = W
    blk_ext []
    · exact congrArg (fun q => q * 1280 + (y 0).val) hi0.symm
    · exact congrArg (fun q => q * 1024 + (y 1).val) hi1.symm

/-- The reference's product is the same array. -/
theorem reference_eq (A : FVec Ideal S16640x2048 .f32) (B : FVec Ideal S1x2048x6144 .f32)
    (hs : Cert.Reference3Ideal.S1x2048x6144.ShapeCasts Cert.Reference3Ideal.S2048x6144) :
    (Host.dotGeneral (F := Ideal) Cert.Reference3Ideal.dot_S16640x2048_S2048x6144_S16640x6144_1_0_0_1_n_n none A
      (shapeCast Cert.Reference3Ideal.S2048x6144 B hs)) = proj A B := by
  have h : ∀ (r : Fin 16640) (n : Fin 6144), ((Host.dotGeneral (F := Ideal) Cert.Reference3Ideal.dot_S16640x2048_S2048x6144_S16640x6144_1_0_0_1_n_n none A
      (shapeCast Cert.Reference3Ideal.S2048x6144 B hs)) (ix2 r n) : EReal)
        = ∑ l : Fin 2048, (A (ix2 r l) : EReal) * B (ix3 0 l n) := by
    intro r n
    pointwise
  funext i
  have e : i = ix2 (i 0) (i 1) := by funext a; fin_cases a <;> rfl
  rw [e]
  exact h (i 0) (i 1)

end Cert.Kernel3Ideal.Proj

end

end
-- ==== Proof.lean ====
/- The proof of the certificate's claims: the frames of the nine programs, and the values of the experts, of the dense
   feed-forward and of the input projection. The experts' launch runs under the two tile tables its arguments hold
   (`Tables`), its result array is `wanted` (`Tally`), and the reference's gated sum over all experts is the same array
   (`Mix`). The dense feed-forward's launch is read by `Dense` and `DenseSum`, its reference by `DenseRef`, the
   projection and its reference by `Proj`. -/
module

public import proofs.«01_k».proof.Defs
public import proofs.«01_k».proof.Proof.Gen.Kernel2.Frame
public import proofs.«01_k».proof.Proof.Gen.Kernel3.Frame
public import proofs.«01_k».proof.Proof.Gen.ReferenceIdeal.Run
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Pre_tile_ranges
public import proofs.«01_k».proof.Proof.Gen.Kernel.Flash.Runs
public import proofs.«01_k».proof.Proof.Gen.KernelIdeal.Flash.Runs
public import proofs.«01_k».proof.Proof.TablesBits
public import proofs.«01_k».proof.Proof.Tables
public import proofs.«01_k».proof.Proof.Mix
public import proofs.«01_k».proof.Proof.Ranges
public import proofs.«01_k».proof.Proof.DenseRef
public import proofs.«01_k».proof.Proof.Proj
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The tables a launch of the idealized kernel starts with, under the precondition. -/
theorem tables [Cert.Pre_tile_ranges.Facts] (m : (ℓ : Loc Cert.KernelIdeal.nD Cert.KernelIdeal.τ Cert.KernelIdeal.sig) → Buf (Elt Ideal) ℓ)
    (h : Cert.Pre_KernelIdeal m) : ∃ T : Cert.KernelIdeal.Tables.Tab, Cert.KernelIdeal.Tables.Pinned T m := by
  obtain ⟨h0, h1⟩ := Cert.Pre_tile_ranges.ranges _ _ _ _ _ _ (h 0)
  refine ⟨⟨_, _, h0, h1⟩, fun c => ?_, fun c => ?_⟩
  · rw [Subsingleton.elim c 0]
  · rw [Subsingleton.elim c 0]

/-- The tables a launch of the kernel starts with, under the precondition. -/
theorem tables_bits [Cert.Pre_tile_ranges.Facts] (m : (ℓ : Loc Cert.Kernel.nD Cert.Kernel.τ Cert.Kernel.sig) → Buf (Elt Bits) ℓ)
    (h : Cert.Pre_Kernel m) : ∃ T : Cert.Kernel.Tables.Tab, Cert.Kernel.Tables.Pinned T m := by
  obtain ⟨h0, h1⟩ := Cert.Pre_tile_ranges.ranges _ _ _ _ _ _ (h 0)
  refine ⟨⟨_, _, h0, h1⟩, fun c => ?_, fun c => ?_⟩
  · rw [Subsingleton.elim c 0]
  · rw [Subsingleton.elim c 0]

/-- Equal arguments, equal gated sums. -/
theorem mixed_congr {te te' tv tv' : IVec Cert.ReferenceIdeal.S72 32} {X X' : FVec Ideal Cert.ReferenceIdeal.S36864x2048 .f32}
    {G G' U U' : FVec Ideal Cert.ReferenceIdeal.S8x2048x7168 .f32} {D D' : FVec Ideal Cert.ReferenceIdeal.S8x7168x2048 .f32}
    (e : te = te') (v : tv = tv') (x : X = X') (g : G = G') (u : U = U') (d : D = D') :
    Cert.ReferenceIdeal.Mix.mixed (Cert.ReferenceIdeal.Mix.gates te tv) X G U D = Cert.ReferenceIdeal.Mix.mixed (Cert.ReferenceIdeal.Mix.gates te' tv') X' G' U' D' := by
  subst e v x g u d
  rfl

theorem residual_congr {X X' H H' : FVec Ideal Cert.Kernel2Ideal.S16640x2048 .f32} {A A' : FVec Ideal Cert.Kernel2Ideal.S2x2048 .f32}
    {G G' U U' : FVec Ideal Cert.Kernel2Ideal.S1x2048x5632 .f32} {D D' : FVec Ideal Cert.Kernel2Ideal.S1x5632x2048 .f32}
    (x : X = X') (a : A = A') (h : H = H') (g : G = G') (u : U = U') (d : D = D') :
    Cert.Kernel2Ideal.Dense.residual X A H G U D = Cert.Kernel2Ideal.Dense.residual X' A' H' G' U' D' := by
  subst x a h g u d
  rfl

theorem proj_congr {A A' : FVec Ideal Cert.Kernel3Ideal.S16640x2048 .f32} {B B' : FVec Ideal Cert.Kernel3Ideal.S1x2048x6144 .f32}
    (a : A = A') (b : B = B') : Cert.Kernel3Ideal.Proj.proj A B = Cert.Kernel3Ideal.Proj.proj A' B' := by
  subst a b
  rfl

theorem claim : Cert.Claim := ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Pre_tile_ranges.Gen.facts, by
  have : Cert.Pre_tile_ranges.Facts := Cert.Pre_tile_ranges.Gen.facts
  refine ⟨fun m g hp => ?_, fun m g hp => ?_, fun m g _ => ?_, fun m g _ => Cert.Kernel2.Gen.frame m g, fun m g _ => Cert.Kernel2Ideal.Gen.frame m g, fun m g _ => ?_,
    fun m g _ => Cert.Kernel3.Gen.frame m g, fun m g _ => Cert.Kernel3Ideal.Gen.frame m g, fun m g _ => ?_, trivial, ?_, trivial, ?_, trivial, ?_⟩
  · obtain ⟨T, hT⟩ := tables_bits m hp
    exact (θ_run Cert.Kernel.defs _ _).mono (fun r h => ⟨fun c => (h.1 c).2, h.2⟩) (Cert.Kernel.Tables.run T m g hT)
  · obtain ⟨T, hT⟩ := tables m hp
    exact (θ_run Cert.KernelIdeal.defs _ _).mono (fun r h => ⟨fun c => (h.1 c).2, h.2⟩) (Cert.KernelIdeal.Tables.run T m g hT)
  · exact (θ_run Cert.ReferenceIdeal.defs _ _).mono (fun r h => (⟨fun c => (h c).2, Idealize.ShloMosaic.sem_eq_zero_of_no_sems (by decide) r.2⟩ : _ ∧ _))
      (Cert.ReferenceIdeal.Value.run (F := Ideal) m g)
  · exact (θ_run Cert.Reference2Ideal.defs _ _).mono (fun r h => (⟨fun c => (h c).2, Idealize.ShloMosaic.sem_eq_zero_of_no_sems (by decide) r.2⟩ : _ ∧ _))
      (Cert.Reference2Ideal.Value.run (F := Ideal) m g)
  · exact (θ_run Cert.Reference3Ideal.defs _ _).mono (fun r h => (⟨fun c => (h c).2, Idealize.ShloMosaic.sem_eq_zero_of_no_sems (by decide) r.2⟩ : _ ∧ _))
      (Cert.Reference3Ideal.Value.run (F := Ideal) m g)
  · intro m g m' g' hp hagree
    obtain ⟨T, hT⟩ := tables m hp
    refine ⟨fun c => Cert.KernelIdeal.Tables.wanted T m c, ?_, ?_⟩
    · exact (θ_run Cert.KernelIdeal.defs _ _).mono (fun r h c => ⟨(h.1 c).1.trans (Cert.KernelIdeal.Tables.final4 T m g c), (h.1 c).2⟩)
        (Cert.KernelIdeal.Tables.run T m g hT)
    · refine (θ_run Cert.ReferenceIdeal.defs _ _).mono (fun r h c => ?_) (Cert.ReferenceIdeal.Mix.run_mixed m' g')
      obtain ⟨e0, e1, e2, e3, e4, e5⟩ := hagree c
      exact ⟨(h c).1.trans ((mixed_congr (e1.trans (hT.1 c)) (e2.trans (hT.2 c)) e0 e3 e4 e5).trans (Cert.ReferenceIdeal.Mix.mixed_eq T m c)), (h c).2⟩
  · intro m g m' g' _ hagree
    refine ⟨fun c => _, (θ_run Cert.Kernel2Ideal.defs _ _).mono (fun r h c => ⟨(h c).1.trans (Cert.Kernel2Ideal.Dense.final m c), (h c).2⟩)
        (Cert.Kernel2Ideal.Value.run_blocks (F := Ideal) m g), ?_⟩
    refine (θ_run Cert.Reference2Ideal.defs _ _).mono (fun r h c => ?_) (Cert.Reference2Ideal.Dense.run_residual m' g')
    obtain ⟨e0, e1, e2, e3, e4, e5⟩ := hagree c
    exact ⟨(h c).1.trans ((Cert.Reference2Ideal.Dense.joined_eq _ _ _ _ _ _).trans (residual_congr e0 e1 e2 e3 e4 e5)), (h c).2⟩
  · intro m g m' g' _ hagree
    refine ⟨fun c => _, (θ_run Cert.Kernel3Ideal.defs _ _).mono (fun r h c => ⟨(h c).1.trans (Cert.Kernel3Ideal.Proj.final m c), (h c).2⟩)
        (Cert.Kernel3Ideal.Value.run_blocks (F := Ideal) m g), ?_⟩
    refine (θ_run Cert.Reference3Ideal.defs _ _).mono (fun r h c => ?_) (Cert.Reference3Ideal.Value.run (F := Ideal) m' g')
    obtain ⟨e0, e1⟩ := hagree c
    exact ⟨(h c).1.trans ((Cert.Kernel3Ideal.Proj.reference_eq _ _ _).trans (proj_congr e0 e1)), (h c).2⟩⟩

end Cert.Proof

end
